-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = Layout.blockN ⟨2, ![4096, 4096]⟩ ⟨2, ![8192, 4096]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S4096x4096 : Shape := ⟨2, ![4096, 4096]⟩
abbrev S2048x4096 : Shape := ⟨2, ![2048, 4096]⟩
abbrev S128x4096 : Shape := ⟨2, ![128, 4096]⟩
abbrev S4x128x4096 : Shape := ⟨3, ![4, 128, 4096]⟩
abbrev S18x128x4096 : Shape := ⟨3, ![18, 128, 4096]⟩
abbrev S2x128x4096 : Shape := ⟨3, ![2, 128, 4096]⟩
abbrev S4 : Shape := ⟨1, ![4]⟩
abbrev S18 : Shape := ⟨1, ![18]⟩
abbrev S8 : Shape := ⟨1, ![8]⟩
abbrev S_ : Shape := ⟨0, ![]⟩
abbrev S1 : Shape := ⟨1, ![1]⟩
abbrev S64x4096 : Shape := ⟨2, ![64, 4096]⟩
abbrev S1x64x4096 : Shape := ⟨3, ![1, 64, 4096]⟩
abbrev S64 : Shape := ⟨1, ![64]⟩
abbrev S64x1 : Shape := ⟨2, ![64, 1]⟩
abbrev S1x128x4096 : Shape := ⟨3, ![1, 128, 4096]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S4096x4096, .f32⟩
  | .hbm, ⟨5, _⟩ => ⟨S2048x4096, .bf16⟩
  | .local _ .vmem, ⟨0, _⟩ => ⟨S1x4096, .f32⟩
  | .local _ .vmem, ⟨1, _⟩ => ⟨S128x4096, .f32⟩
  | .local _ .vmem, ⟨2, _⟩ => ⟨S128x4096, .f32⟩
  | .local _ .vmem, ⟨3, _⟩ => ⟨S4x128x4096, .bf16⟩
  | .local _ .vmem, ⟨4, _⟩ => ⟨S18x128x4096, .bf16⟩
  | .local _ .vmem, ⟨5, _⟩ => ⟨S2x128x4096, .f32⟩
  | .local _ .vmem, ⟨6, _⟩ => ⟨S4x128x4096, .bf16⟩
  | .local _ .vmem, ⟨7, _⟩ => ⟨S2x128x4096, .bf16⟩
  | .local _ .vmem, ⟨8, _⟩ => ⟨S2x128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_16 : BitVec 32) : Fin 2 → Nat :=
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_14 v2
  let c4096_i32 : BitVec 32 := 4096#32
  let v21 : BitVec 32 := Scalar.muli v20 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v22 : BitVec 32 := Scalar.addi v21 v17
  let v25 : BitVec 32 := Scalar.addi v22 c0_i32_16
  let c0_i32_20 : BitVec 32 := 0#32
  ![v25.toNat, 0]
def k0_off1_at (r : Fin 4) : BitVec 32 :=
  if r.val < 2 then
    if r.val < 1 then
      0#32
    else
      64#32
  else
    if r.val < 3 then
      1920#32
    else
      1984#32
def k0_dev3 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v39 : BitVec 32 := Scalar.muli v6 c2_i32_33
  let v40 : BitVec 32 := Scalar.addi c0_i32_34 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v41 : BitVec 32 := Scalar.muli v5 c1_i32_35
  let v42 : BitVec 32 := Scalar.addi v40 v41
  v42.toNat
def k0_dev4 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v65 : BitVec 32 := Scalar.muli v6 c2_i32_56
  let v66 : BitVec 32 := Scalar.addi c0_i32_57 v65
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v67 : BitVec 32 := Scalar.muli v5 c1_i32_58
  let v68 : BitVec 32 := Scalar.addi v66 v67
  v68.toNat
def k0_off2 (d0 : Dev nD) (c0_i32_63 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_15 : BitVec 32 := 4096#32
  let v23 : BitVec 32 := Scalar.muli v2 c4096_i32_15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v24 : BitVec 32 := Scalar.addi v23 v17
  let v77 : BitVec 32 := Scalar.addi v24 c0_i32_63
  let c0_i32_67 : BitVec 32 := 0#32
  ![v77.toNat, 0]
def k0_off2_at (r : Fin 4) : BitVec 32 :=
  if r.val < 2 then
    if r.val < 1 then
      0#32
    else
      64#32
  else
    if r.val < 3 then
      1920#32
    else
      1984#32
def k0_dev5 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v122 : BitVec 32 := Scalar.muli v2 c2_i32_101
  let v123 : BitVec 32 := Scalar.addi c0_i32_102 v122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_103 : BitVec 32 := 1#32
  let v124 : BitVec 32 := Scalar.muli v7 c1_i32_103
  let v125 : BitVec 32 := Scalar.addi v123 v124
  v125.toNat
def k0_off3 (d0 : Dev nD) (c0_i32_108 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v133 : BitVec 32 := Scalar.addi v17 c0_i32_108
  let c0_i32_111 : BitVec 32 := 0#32
  ![v133.toNat, 0]
def k0_off3_at (r : Fin 4) : BitVec 32 :=
  if r.val < 2 then
    if r.val < 1 then
      0#32
    else
      64#32
  else
    if r.val < 3 then
      1920#32
    else
      1984#32
def k0_off4 (d0 : Dev nD) (c128_i32 : BitVec 32) : Fin 2 → Nat :=
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.subi c1_i32_14 v2
  let c4096_i32 : BitVec 32 := 4096#32
  let v21 : BitVec 32 := Scalar.muli v20 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v22 : BitVec 32 := Scalar.addi v21 v17
  let v139 : BitVec 32 := Scalar.addi v22 c128_i32
  let c0_i32_117 : BitVec 32 := 0#32
  ![v139.toNat, 0]
def k0_dev6 (d0 : Dev nD) : Nat :=
  let c0_i32_131 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_130 : BitVec 32 := 2#32
  let v153 : BitVec 32 := Scalar.muli v6 c2_i32_130
  let v154 : BitVec 32 := Scalar.addi c0_i32_131 v153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v155 : BitVec 32 := Scalar.muli v5 c1_i32_132
  let v156 : BitVec 32 := Scalar.addi v154 v155
  v156.toNat
def k0_dev7 (d0 : Dev nD) : Nat :=
  let c0_i32_177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_176 : BitVec 32 := 2#32
  let v210 : BitVec 32 := Scalar.muli v2 c2_i32_176
  let v211 : BitVec 32 := Scalar.addi c0_i32_177 v210
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_178 : BitVec 32 := 1#32
  let v212 : BitVec 32 := Scalar.muli v7 c1_i32_178
  let v213 : BitVec 32 := Scalar.addi v211 v212
  v213.toNat
def k0_dev8 (d0 : Dev nD) : Nat :=
  let c0_i32_205 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_204 : BitVec 32 := 2#32
  let v241 : BitVec 32 := Scalar.muli v6 c2_i32_204
  let v242 : BitVec 32 := Scalar.addi c0_i32_205 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_206 : BitVec 32 := 1#32
  let v243 : BitVec 32 := Scalar.muli v5 c1_i32_206
  let v244 : BitVec 32 := Scalar.addi v242 v243
  v244.toNat
def k0_off5 (d0 : Dev nD) (c128_i32_211 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_15 : BitVec 32 := 4096#32
  let v23 : BitVec 32 := Scalar.muli v2 c4096_i32_15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v24 : BitVec 32 := Scalar.addi v23 v17
  let v253 : BitVec 32 := Scalar.addi v24 c128_i32_211
  let c0_i32_215 : BitVec 32 := 0#32
  ![v253.toNat, 0]
def k0_dev9 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v303 : BitVec 32 := Scalar.muli v2 c2_i32_255
  let v304 : BitVec 32 := Scalar.addi c0_i32_256 v303
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_257 : BitVec 32 := 1#32
  let v305 : BitVec 32 := Scalar.muli v7 c1_i32_257
  let v306 : BitVec 32 := Scalar.addi v304 v305
  v306.toNat
def k0_off6 (d0 : Dev nD) (c128_i32_262 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v314 : BitVec 32 := Scalar.addi v17 c128_i32_262
  let c0_i32_265 : BitVec 32 := 0#32
  ![v314.toNat, 0]
def k0_off7 (d0 : Dev nD) (c0_i32_295 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  let v345 : BitVec 32 := Scalar.addi v19 c0_i32_295
  let c0_i32_297 : BitVec 32 := 0#32
  ![v345.toNat, 0]
def k0_off7_at (r : Fin 4) : BitVec 32 :=
  if r.val < 2 then
    if r.val < 1 then
      0#32
    else
      64#32
  else
    if r.val < 3 then
      1920#32
    else
      1984#32
def k0_dev10 (d0 : Dev nD) : Nat :=
  let c0_i32_327 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_326 : BitVec 32 := 2#32
  let v371 : BitVec 32 := Scalar.muli v6 c2_i32_326
  let v372 : BitVec 32 := Scalar.addi c0_i32_327 v371
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v373 : BitVec 32 := Scalar.muli v5 c1_i32_328
  let v374 : BitVec 32 := Scalar.addi v372 v373
  v374.toNat
def k0_dev11 (d0 : Dev nD) : Nat :=
  let c0_i32_378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_377 : BitVec 32 := 2#32
  let v433 : BitVec 32 := Scalar.muli v2 c2_i32_377
  let v434 : BitVec 32 := Scalar.addi c0_i32_378 v433
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_379 : BitVec 32 := 1#32
  let v435 : BitVec 32 := Scalar.muli v7 c1_i32_379
  let v436 : BitVec 32 := Scalar.addi v434 v435
  v436.toNat
def k0_dev12 (d0 : Dev nD) : Nat :=
  let c0_i32_449 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_448 : BitVec 32 := 2#32
  let v501 : BitVec 32 := Scalar.muli v6 c2_i32_448
  let v502 : BitVec 32 := Scalar.addi c0_i32_449 v501
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_450 : BitVec 32 := 1#32
  let v503 : BitVec 32 := Scalar.muli v5 c1_i32_450
  let v504 : BitVec 32 := Scalar.addi v502 v503
  v504.toNat
def k0_dev13 (d0 : Dev nD) : Nat :=
  let c0_i32_507 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_506 : BitVec 32 := 2#32
  let v568 : BitVec 32 := Scalar.muli v2 c2_i32_506
  let v569 : BitVec 32 := Scalar.addi c0_i32_507 v568
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_508 : BitVec 32 := 1#32
  let v570 : BitVec 32 := Scalar.muli v7 c1_i32_508
  let v571 : BitVec 32 := Scalar.addi v569 v570
  v571.toNat
def k0_off8 (d0 : Dev nD) (c128_i32_552 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  let v615 : BitVec 32 := Scalar.addi v19 c128_i32_552
  let c0_i32_555 : BitVec 32 := 0#32
  ![v615.toNat, 0]
def k0_dev14 (d0 : Dev nD) : Nat :=
  let c0_i32_585 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_584 : BitVec 32 := 2#32
  let v641 : BitVec 32 := Scalar.muli v6 c2_i32_584
  let v642 : BitVec 32 := Scalar.addi c0_i32_585 v641
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_586 : BitVec 32 := 1#32
  let v643 : BitVec 32 := Scalar.muli v5 c1_i32_586
  let v644 : BitVec 32 := Scalar.addi v642 v643
  v644.toNat
def k0_dev15 (d0 : Dev nD) : Nat :=
  let c0_i32_643 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_642 : BitVec 32 := 2#32
  let v708 : BitVec 32 := Scalar.muli v2 c2_i32_642
  let v709 : BitVec 32 := Scalar.addi c0_i32_643 v708
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_644 : BitVec 32 := 1#32
  let v710 : BitVec 32 := Scalar.muli v7 c1_i32_644
  let v711 : BitVec 32 := Scalar.addi v709 v710
  v711.toNat
def k0_dev16 (d0 : Dev nD) : Nat :=
  let c0_i32_721 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_720 : BitVec 32 := 2#32
  let v781 : BitVec 32 := Scalar.muli v6 c2_i32_720
  let v782 : BitVec 32 := Scalar.addi c0_i32_721 v781
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_722 : BitVec 32 := 1#32
  let v783 : BitVec 32 := Scalar.muli v5 c1_i32_722
  let v784 : BitVec 32 := Scalar.addi v782 v783
  v784.toNat
def k0_dev17 (d0 : Dev nD) : Nat :=
  let c0_i32_779 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_778 : BitVec 32 := 2#32
  let v848 : BitVec 32 := Scalar.muli v2 c2_i32_778
  let v849 : BitVec 32 := Scalar.addi c0_i32_779 v848
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_780 : BitVec 32 := 1#32
  let v850 : BitVec 32 := Scalar.muli v7 c1_i32_780
  let v851 : BitVec 32 := Scalar.addi v849 v850
  v851.toNat
def k0_dev18 (d0 : Dev nD) : Nat :=
  let c0_i32_856 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_855 : BitVec 32 := 2#32
  let v921 : BitVec 32 := Scalar.muli v6 c2_i32_855
  let v922 : BitVec 32 := Scalar.addi c0_i32_856 v921
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_857 : BitVec 32 := 1#32
  let v923 : BitVec 32 := Scalar.muli v5 c1_i32_857
  let v924 : BitVec 32 := Scalar.addi v922 v923
  v924.toNat
def k0_dev19 (d0 : Dev nD) : Nat :=
  let c0_i32_914 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_913 : BitVec 32 := 2#32
  let v988 : BitVec 32 := Scalar.muli v2 c2_i32_913
  let v989 : BitVec 32 := Scalar.addi c0_i32_914 v988
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_915 : BitVec 32 := 1#32
  let v990 : BitVec 32 := Scalar.muli v7 c1_i32_915
  let v991 : BitVec 32 := Scalar.addi v989 v990
  v991.toNat
def k0_dev20 (d0 : Dev nD) : Nat :=
  let c0_i32_991 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_990 : BitVec 32 := 2#32
  let v1061 : BitVec 32 := Scalar.muli v6 c2_i32_990
  let v1062 : BitVec 32 := Scalar.addi c0_i32_991 v1061
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_992 : BitVec 32 := 1#32
  let v1063 : BitVec 32 := Scalar.muli v5 c1_i32_992
  let v1064 : BitVec 32 := Scalar.addi v1062 v1063
  v1064.toNat
def k0_dev21 (d0 : Dev nD) : Nat :=
  let c0_i32_1049 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1048 : BitVec 32 := 2#32
  let v1128 : BitVec 32 := Scalar.muli v2 c2_i32_1048
  let v1129 : BitVec 32 := Scalar.addi c0_i32_1049 v1128
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1050 : BitVec 32 := 1#32
  let v1130 : BitVec 32 := Scalar.muli v7 c1_i32_1050
  let v1131 : BitVec 32 := Scalar.addi v1129 v1130
  v1131.toNat
def k0_dev22 (d0 : Dev nD) : Nat :=
  let c0_i32_1126 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1125 : BitVec 32 := 2#32
  let v1201 : BitVec 32 := Scalar.muli v6 c2_i32_1125
  let v1202 : BitVec 32 := Scalar.addi c0_i32_1126 v1201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1127 : BitVec 32 := 1#32
  let v1203 : BitVec 32 := Scalar.muli v5 c1_i32_1127
  let v1204 : BitVec 32 := Scalar.addi v1202 v1203
  v1204.toNat
def k0_dev23 (d0 : Dev nD) : Nat :=
  let c0_i32_1184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1183 : BitVec 32 := 2#32
  let v1268 : BitVec 32 := Scalar.muli v2 c2_i32_1183
  let v1269 : BitVec 32 := Scalar.addi c0_i32_1184 v1268
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1185 : BitVec 32 := 1#32
  let v1270 : BitVec 32 := Scalar.muli v7 c1_i32_1185
  let v1271 : BitVec 32 := Scalar.addi v1269 v1270
  v1271.toNat
def k0_dev24 (d0 : Dev nD) : Nat :=
  let c0_i32_1261 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1260 : BitVec 32 := 2#32
  let v1341 : BitVec 32 := Scalar.muli v6 c2_i32_1260
  let v1342 : BitVec 32 := Scalar.addi c0_i32_1261 v1341
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1262 : BitVec 32 := 1#32
  let v1343 : BitVec 32 := Scalar.muli v5 c1_i32_1262
  let v1344 : BitVec 32 := Scalar.addi v1342 v1343
  v1344.toNat
def k0_dev25 (d0 : Dev nD) : Nat :=
  let c0_i32_1319 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1318 : BitVec 32 := 2#32
  let v1408 : BitVec 32 := Scalar.muli v2 c2_i32_1318
  let v1409 : BitVec 32 := Scalar.addi c0_i32_1319 v1408
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1320 : BitVec 32 := 1#32
  let v1410 : BitVec 32 := Scalar.muli v7 c1_i32_1320
  let v1411 : BitVec 32 := Scalar.addi v1409 v1410
  v1411.toNat
def k0_dev26 (d0 : Dev nD) : Nat :=
  let c0_i32_1396 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1395 : BitVec 32 := 2#32
  let v1481 : BitVec 32 := Scalar.muli v6 c2_i32_1395
  let v1482 : BitVec 32 := Scalar.addi c0_i32_1396 v1481
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1397 : BitVec 32 := 1#32
  let v1483 : BitVec 32 := Scalar.muli v5 c1_i32_1397
  let v1484 : BitVec 32 := Scalar.addi v1482 v1483
  v1484.toNat
def k0_dev27 (d0 : Dev nD) : Nat :=
  let c0_i32_1454 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1453 : BitVec 32 := 2#32
  let v1548 : BitVec 32 := Scalar.muli v2 c2_i32_1453
  let v1549 : BitVec 32 := Scalar.addi c0_i32_1454 v1548
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1455 : BitVec 32 := 1#32
  let v1550 : BitVec 32 := Scalar.muli v7 c1_i32_1455
  let v1551 : BitVec 32 := Scalar.addi v1549 v1550
  v1551.toNat
def k0_dev28 (d0 : Dev nD) : Nat :=
  let c0_i32_1531 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1530 : BitVec 32 := 2#32
  let v1621 : BitVec 32 := Scalar.muli v6 c2_i32_1530
  let v1622 : BitVec 32 := Scalar.addi c0_i32_1531 v1621
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1532 : BitVec 32 := 1#32
  let v1623 : BitVec 32 := Scalar.muli v5 c1_i32_1532
  let v1624 : BitVec 32 := Scalar.addi v1622 v1623
  v1624.toNat
def k0_dev29 (d0 : Dev nD) : Nat :=
  let c0_i32_1589 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1588 : BitVec 32 := 2#32
  let v1688 : BitVec 32 := Scalar.muli v2 c2_i32_1588
  let v1689 : BitVec 32 := Scalar.addi c0_i32_1589 v1688
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1590 : BitVec 32 := 1#32
  let v1690 : BitVec 32 := Scalar.muli v7 c1_i32_1590
  let v1691 : BitVec 32 := Scalar.addi v1689 v1690
  v1691.toNat
def k0_dev30 (d0 : Dev nD) : Nat :=
  let c0_i32_1666 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1665 : BitVec 32 := 2#32
  let v1761 : BitVec 32 := Scalar.muli v6 c2_i32_1665
  let v1762 : BitVec 32 := Scalar.addi c0_i32_1666 v1761
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1667 : BitVec 32 := 1#32
  let v1763 : BitVec 32 := Scalar.muli v5 c1_i32_1667
  let v1764 : BitVec 32 := Scalar.addi v1762 v1763
  v1764.toNat
def k0_dev31 (d0 : Dev nD) : Nat :=
  let c0_i32_1724 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1723 : BitVec 32 := 2#32
  let v1828 : BitVec 32 := Scalar.muli v2 c2_i32_1723
  let v1829 : BitVec 32 := Scalar.addi c0_i32_1724 v1828
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1725 : BitVec 32 := 1#32
  let v1830 : BitVec 32 := Scalar.muli v7 c1_i32_1725
  let v1831 : BitVec 32 := Scalar.addi v1829 v1830
  v1831.toNat
def k0_dev32 (d0 : Dev nD) : Nat :=
  let c0_i32_1801 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1800 : BitVec 32 := 2#32
  let v1901 : BitVec 32 := Scalar.muli v6 c2_i32_1800
  let v1902 : BitVec 32 := Scalar.addi c0_i32_1801 v1901
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1802 : BitVec 32 := 1#32
  let v1903 : BitVec 32 := Scalar.muli v5 c1_i32_1802
  let v1904 : BitVec 32 := Scalar.addi v1902 v1903
  v1904.toNat
def k0_dev33 (d0 : Dev nD) : Nat :=
  let c0_i32_1859 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1858 : BitVec 32 := 2#32
  let v1968 : BitVec 32 := Scalar.muli v2 c2_i32_1858
  let v1969 : BitVec 32 := Scalar.addi c0_i32_1859 v1968
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1860 : BitVec 32 := 1#32
  let v1970 : BitVec 32 := Scalar.muli v7 c1_i32_1860
  let v1971 : BitVec 32 := Scalar.addi v1969 v1970
  v1971.toNat
def k0_dev34 (d0 : Dev nD) : Nat :=
  let c0_i32_1936 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1935 : BitVec 32 := 2#32
  let v2041 : BitVec 32 := Scalar.muli v6 c2_i32_1935
  let v2042 : BitVec 32 := Scalar.addi c0_i32_1936 v2041
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1937 : BitVec 32 := 1#32
  let v2043 : BitVec 32 := Scalar.muli v5 c1_i32_1937
  let v2044 : BitVec 32 := Scalar.addi v2042 v2043
  v2044.toNat
def k0_dev35 (d0 : Dev nD) : Nat :=
  let c0_i32_1994 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1993 : BitVec 32 := 2#32
  let v2108 : BitVec 32 := Scalar.muli v2 c2_i32_1993
  let v2109 : BitVec 32 := Scalar.addi c0_i32_1994 v2108
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1995 : BitVec 32 := 1#32
  let v2110 : BitVec 32 := Scalar.muli v7 c1_i32_1995
  let v2111 : BitVec 32 := Scalar.addi v2109 v2110
  v2111.toNat
def k0_dev36 (d0 : Dev nD) : Nat :=
  let c0_i32_2071 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2070 : BitVec 32 := 2#32
  let v2181 : BitVec 32 := Scalar.muli v6 c2_i32_2070
  let v2182 : BitVec 32 := Scalar.addi c0_i32_2071 v2181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2072 : BitVec 32 := 1#32
  let v2183 : BitVec 32 := Scalar.muli v5 c1_i32_2072
  let v2184 : BitVec 32 := Scalar.addi v2182 v2183
  v2184.toNat
def k0_dev37 (d0 : Dev nD) : Nat :=
  let c0_i32_2129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2128 : BitVec 32 := 2#32
  let v2248 : BitVec 32 := Scalar.muli v2 c2_i32_2128
  let v2249 : BitVec 32 := Scalar.addi c0_i32_2129 v2248
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2130 : BitVec 32 := 1#32
  let v2250 : BitVec 32 := Scalar.muli v7 c1_i32_2130
  let v2251 : BitVec 32 := Scalar.addi v2249 v2250
  v2251.toNat
def k0_dev38 (d0 : Dev nD) : Nat :=
  let c0_i32_2232 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2231 : BitVec 32 := 2#32
  let v2356 : BitVec 32 := Scalar.muli v2 c2_i32_2231
  let v2357 : BitVec 32 := Scalar.addi c0_i32_2232 v2356
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2233 : BitVec 32 := 1#32
  let v2358 : BitVec 32 := Scalar.muli v7 c1_i32_2233
  let v2359 : BitVec 32 := Scalar.addi v2357 v2358
  v2359.toNat
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Segs.lean ====
/- The kernel's body as a sequence of steps, one segment of rows at a time: the views each step names, indexed
   by the segment's number, and the statement that the printed body is that sequence. -/
module

public import proofs.«01_k».proof.KernelIdeal
public import proofs.«01_k».proof.Proof.Gen.KernelIdeal
public import proofs.«01_k».proof.Proof.Gen.KernelIdeal.Points
public import Idealize.ShloMosaic.Lib.Pipeline.Regions

@[expose] public section

noncomputable section

namespace Cert.KernelIdeal.Run

open Idealize.ShloMosaic Idealize.ShloMosaic.TcCoe
open Idealize.SL Idealize.SL.Sem
open Cert.KernelIdeal Cert.KernelIdeal.Gen

/-! ## Segments -/

/-- Segments 2 to 15 have 128 rows, the others 64. -/
def big (i : ℕ) : Bool := Nat.ble 2 i && Nat.ble i 15
/-- The rows of segment `i`. -/
def rows (i : ℕ) : ℕ := bif big i then 128 else 64
/-- The first row of segment `i`. -/
def off (i : ℕ) : ℕ := bif Nat.ble i 1 then 64 * i else bif Nat.ble i 16 then 128 * (i - 1) else 1984

theorem rows_cases (i : ℕ) : rows i = 64 ∨ rows i = 128 := by
  unfold rows; cases big i <;> simp
theorem rows_le (i : ℕ) : rows i ≤ 128 := by
  unfold rows; cases big i <;> decide
theorem rows_pos (i : ℕ) : 0 < rows i := by
  unfold rows; cases big i <;> decide
theorem big_eq (i : ℕ) : big i = decide (2 ≤ i ∧ i ≤ 15) := by
  rw [big, Bool.decide_and]
  congr 1 <;> exact (Bool.eq_iff_iff.2 (by simp [Nat.ble_eq]))
theorem off_add_rows (i : ℕ) : off i + rows i ≤ 2048 := by
  simp only [off, rows, big_eq, cond_eq_ite, Nat.ble_eq, decide_eq_true_eq]
  split_ifs <;> omega
theorem off_min (i : ℕ) : off i = off (min i 17) := by
  simp only [off, cond_eq_ite, Nat.ble_eq]
  split_ifs <;> omega
theorem off_lt (i : ℕ) : off i < 2048 := by
  have := off_add_rows i; have := rows_pos i; omega

/-- The block of one segment: rows by columns. -/
abbrev S2 (i : ℕ) : Shape := ⟨2, ![rows i, 4096]⟩
/-- The block of one segment in a stack of slots. -/
abbrev S3 (i : ℕ) : Shape := ⟨3, ![1, rows i, 4096]⟩
abbrev Srow (i : ℕ) : Shape := ⟨1, ![rows i]⟩
abbrev Scol (i : ℕ) : Shape := ⟨2, ![rows i, 1]⟩

theorem inbL (i : ℕ) : ∀ a, (![0, 0] : Fin 2 → ℕ) a + (S2 i).size a ≤ S128x4096.size a := by
  intro a; have := rows_le i
  fin_cases a <;> simp <;> omega
theorem inb4 (i : ℕ) : ∀ a, (![i % 4, 0, 0] : Fin 3 → ℕ) a + (S3 i).size a ≤ S4x128x4096.size a := by
  intro a; have := rows_le i
  fin_cases a <;> simp <;> omega
theorem inb2 (i : ℕ) : ∀ a, (![i % 2, 0, 0] : Fin 3 → ℕ) a + (S3 i).size a ≤ S2x128x4096.size a := by
  intro a; have := rows_le i
  fin_cases a <;> simp <;> omega
theorem inb18 (i : ℕ) : ∀ a, (![i % 18, 0, 0] : Fin 3 → ℕ) a + (S3 i).size a ≤ S18x128x4096.size a := by
  intro a; have := rows_le i
  fin_cases a <;> simp <;> omega
theorem inbY (i : ℕ) : ∀ a, (![off i, 0] : Fin 2 → ℕ) a + (S2 i).size a ≤ S2048x4096.size a := by
  intro a; have := off_add_rows i
  fin_cases a <;> simp <;> omega
theorem inbs4 (k : ℕ) : ∀ a, (![k % 4] : Fin 1 → ℕ) a + S1.size a ≤ S4.size a := by
  intro a; fin_cases a; simp; omega
theorem inbs8 (k : ℕ) : ∀ a, (![k % 8] : Fin 1 → ℕ) a + S1.size a ≤ S8.size a := by
  intro a; fin_cases a; simp; omega
theorem inbs18 (k : ℕ) : ∀ a, (![k % 18] : Fin 1 → ℕ) a + S1.size a ≤ S18.size a := by
  intro a; fin_cases a; simp; omega

theorem hS2 (i : ℕ) : 0 < (S2 i).numel := by
  unfold S2 rows; cases big i <;> decide
theorem hS3 (i : ℕ) : 0 < (S3 i).numel := by
  unfold S3 rows; cases big i <;> decide
theorem sqz (i : ℕ) : (S3 i).Squeezes (S2 i) := by
  unfold S3 S2 rows; cases big i <;> decide
theorem cast32 (i : ℕ) : (S3 i).ShapeCasts (S2 i) := by
  unfold S3 S2 rows; cases big i <;> decide
theorem cast23 (i : ℕ) : (S2 i).ShapeCasts (S3 i) := by
  unfold S3 S2 rows; cases big i <;> decide
theorem castRow (i : ℕ) : (Srow i).ShapeCasts (Scol i) := by
  unfold Srow Scol rows; cases big i <;> decide
theorem reds (i : ℕ) : (S2 i).Reduces [1] (Srow i) := by
  unfold S2 Srow rows; cases big i <;> decide
theorem bcCol (i : ℕ) : (Scol i).Broadcasts (S2 i) := by
  unfold S2 Scol rows; cases big i <;> decide
theorem bcGam (i : ℕ) : S1x4096.Broadcasts (S2 i) := by
  unfold S2 rows; cases big i <;> decide

/-- Slot `i % 4` of a four-slot stack, the rows of segment `i`. -/
abbrev rect4 (i : ℕ) : Rect S4x128x4096 := Rect.unit (s := S4x128x4096) ![i % 4, 0, 0] (S3 i).size (inb4 i)
abbrev rect2 (i : ℕ) : Rect S2x128x4096 := Rect.unit (s := S2x128x4096) ![i % 2, 0, 0] (S3 i).size (inb2 i)
abbrev rect18 (i : ℕ) : Rect S18x128x4096 := Rect.unit (s := S18x128x4096) ![i % 18, 0, 0] (S3 i).size (inb18 i)
abbrev rectL (i : ℕ) : Rect S128x4096 := Rect.unit (s := S128x4096) ![0, 0] (S2 i).size (inbL i)
abbrev rectY (i : ℕ) : Rect S2048x4096 := Rect.unit (s := S2048x4096) ![off i, 0] (S2 i).size (inbY i)

theorem words4 (i : ℕ) : (rect4 i).WholeWords (EltTy.packing .bf16) :=
  (by decide : ∀ (b : Bool) (k : Fin 4) (h : ∀ a, (![(k : ℕ), 0, 0] : Fin 3 → ℕ) a
      + (⟨3, ![1, bif b then 128 else 64, 4096]⟩ : Shape).size a ≤ S4x128x4096.size a),
      (Rect.unit (s := S4x128x4096) ![(k : ℕ), 0, 0] (⟨3, ![1, bif b then 128 else 64, 4096]⟩ : Shape).size h).WholeWords
        (EltTy.packing .bf16)) (big i) ⟨i % 4, Nat.mod_lt _ (by decide)⟩ (inb4 i)
theorem packed4 (i : ℕ) : (rect4 i).PackedRows (EltTy.packing .bf16) :=
  (by decide : ∀ (b : Bool) (k : Fin 4) (h : ∀ a, (![(k : ℕ), 0, 0] : Fin 3 → ℕ) a
      + (⟨3, ![1, bif b then 128 else 64, 4096]⟩ : Shape).size a ≤ S4x128x4096.size a),
      (Rect.unit (s := S4x128x4096) ![(k : ℕ), 0, 0] (⟨3, ![1, bif b then 128 else 64, 4096]⟩ : Shape).size h).PackedRows
        (EltTy.packing .bf16)) (big i) ⟨i % 4, Nat.mod_lt _ (by decide)⟩ (inb4 i)
theorem words2 (i : ℕ) : (rect2 i).WholeWords (EltTy.packing .bf16) :=
  (by decide : ∀ (b : Bool) (k : Fin 2) (h : ∀ a, (![(k : ℕ), 0, 0] : Fin 3 → ℕ) a
      + (⟨3, ![1, bif b then 128 else 64, 4096]⟩ : Shape).size a ≤ S2x128x4096.size a),
      (Rect.unit (s := S2x128x4096) ![(k : ℕ), 0, 0] (⟨3, ![1, bif b then 128 else 64, 4096]⟩ : Shape).size h).WholeWords
        (EltTy.packing .bf16)) (big i) ⟨i % 2, Nat.mod_lt _ (by decide)⟩ (inb2 i)
theorem words18 (i : ℕ) : (rect18 i).WholeWords (EltTy.packing .bf16) :=
  (by decide : ∀ (b : Bool) (k : Fin 18) (h : ∀ a, (![(k : ℕ), 0, 0] : Fin 3 → ℕ) a
      + (⟨3, ![1, bif b then 128 else 64, 4096]⟩ : Shape).size a ≤ S18x128x4096.size a),
      (Rect.unit (s := S18x128x4096) ![(k : ℕ), 0, 0] (⟨3, ![1, bif b then 128 else 64, 4096]⟩ : Shape).size h).WholeWords
        (EltTy.packing .bf16)) (big i) ⟨i % 18, Nat.mod_lt _ (by decide)⟩ (inb18 i)
theorem off_even (i : ℕ) : off i % 64 = 0 := by
  simp only [off, cond_eq_ite, Nat.ble_eq]
  split_ifs <;> omega
theorem wordsY (i : ℕ) : (rectY i).WholeWords (EltTy.packing .bf16) := by
  have h := (by decide +kernel : ∀ (k : Fin 18) (b : Bool) (h : ∀ a, (![off k, 0] : Fin 2 → ℕ) a
      + (⟨2, ![bif b then 128 else 64, 4096]⟩ : Shape).size a ≤ S2048x4096.size a),
      (Rect.unit (s := S2048x4096) ![off k, 0] (⟨2, ![bif b then 128 else 64, 4096]⟩ : Shape).size h).WholeWords
        (EltTy.packing .bf16)) ⟨min i 17, by omega⟩ (big i)
  simp only [← off_min] at h
  exact h (inbY i)

/-! ## The devices and the rows of the big arrays -/

/-- The device across the first mesh axis. -/
def px (d : Dev nD) : Dev nD := ⟨k0_dev3 d, k0_dev3_lt d⟩
/-- The device across the second mesh axis. -/
def py (d : Dev nD) : Dev nD := ⟨k0_dev5 d, k0_dev5_lt d⟩

/-- The first mesh coordinate of a device, and the second. -/
def xc (d : Dev nD) : ℕ := d.val / 2
def yc (d : Dev nD) : ℕ := d.val % 2
theorem xc_lt (d : Dev nD) : xc d < 2 := by have := d.isLt; have : nD = 4 := rfl; unfold xc; omega
theorem yc_lt (d : Dev nD) : yc d < 2 := by unfold yc; omega

/-- First row of segment `i` in the half that the peer across the first axis reduces. -/
def srcRow (d : Dev nD) (i : ℕ) : ℕ := (1 - xc d) * 4096 + yc d * 2048 + off i
/-- First row of segment `i` in the device's own half. -/
def locRow (d : Dev nD) (i : ℕ) : ℕ := xc d * 4096 + yc d * 2048 + off i
/-- First row of segment `i` in the device's part of the result, and in its peer's part. -/
def outRow (d : Dev nD) (i : ℕ) : ℕ := yc d * 2048 + off i
def othRow (d : Dev nD) (i : ℕ) : ℕ := (1 - yc d) * 2048 + off i

theorem off1_eq (d : Dev nD) (i : ℕ) : k0_off1 d (BitVec.ofNat 32 (off i)) = ![srcRow d i, 0] := by
  have h := (by decide +kernel : ∀ (d : Dev nD) (k : Fin 18), k0_off1 d (BitVec.ofNat 32 (off k)) = ![srcRow d k, 0])
    d ⟨min i 17, by omega⟩
  simpa only [srcRow, ← off_min] using h
theorem off2_eq (d : Dev nD) (i : ℕ) : k0_off2 d (BitVec.ofNat 32 (off i)) = ![locRow d i, 0] := by
  have h := (by decide +kernel : ∀ (d : Dev nD) (k : Fin 18), k0_off2 d (BitVec.ofNat 32 (off k)) = ![locRow d k, 0])
    d ⟨min i 17, by omega⟩
  simpa only [locRow, ← off_min] using h
theorem off3_eq (d : Dev nD) (i : ℕ) : k0_off3 d (BitVec.ofNat 32 (off i)) = ![outRow d i, 0] := by
  have h := (by decide +kernel : ∀ (d : Dev nD) (k : Fin 18), k0_off3 d (BitVec.ofNat 32 (off k)) = ![outRow d k, 0])
    d ⟨min i 17, by omega⟩
  simpa only [outRow, ← off_min] using h
theorem off7_eq (d : Dev nD) (i : ℕ) : k0_off7 d (BitVec.ofNat 32 (off i)) = ![othRow d i, 0] := by
  have h := (by decide +kernel : ∀ (d : Dev nD) (k : Fin 18), k0_off7 d (BitVec.ofNat 32 (off k)) = ![othRow d k, 0])
    d ⟨min i 17, by omega⟩
  simpa only [othRow, ← off_min] using h

theorem inb1 (d : Dev nD) (i : ℕ) : ∀ a, k0_off1 d (BitVec.ofNat 32 (off i)) a + (S2 i).size a ≤ S8192x4096.size a := by
  rw [off1_eq]; intro a; have := off_add_rows i; have := xc_lt d; have := yc_lt d
  fin_cases a
  · show srcRow d i + rows i ≤ 8192
    unfold srcRow; omega
  · exact Nat.le_refl _
theorem inbo2 (d : Dev nD) (i : ℕ) : ∀ a, k0_off2 d (BitVec.ofNat 32 (off i)) a + (S2 i).size a ≤ S8192x4096.size a := by
  rw [off2_eq]; intro a; have := off_add_rows i; have := xc_lt d; have := yc_lt d
  fin_cases a
  · show locRow d i + rows i ≤ 8192
    unfold locRow; omega
  · exact Nat.le_refl _
theorem inb3 (d : Dev nD) (i : ℕ) : ∀ a, k0_off3 d (BitVec.ofNat 32 (off i)) a + (S2 i).size a ≤ S4096x4096.size a := by
  rw [off3_eq]; intro a; have := off_add_rows i; have := yc_lt d
  fin_cases a
  · show outRow d i + rows i ≤ 4096
    unfold outRow; omega
  · exact Nat.le_refl _
theorem inb7 (d : Dev nD) (i : ℕ) : ∀ a, k0_off7 d (BitVec.ofNat 32 (off i)) a + (S2 i).size a ≤ S4096x4096.size a := by
  rw [off7_eq]; intro a; have := off_add_rows i; have := yc_lt d
  fin_cases a
  · show othRow d i + rows i ≤ 4096
    unfold othRow; omega
  · exact Nat.le_refl _

/-! ## The views -/

/-- The device's rows for its peer. -/
abbrev srcV (d : Dev nD) (i : ℕ) : Memref sig .tc .hbm (S2 i) .f32 :=
  (Memref.whole main_v1).slice (Rect.unit (s := S8192x4096) (k0_off1 d (BitVec.ofNat 32 (off i))) (S2 i).size (inb1 d i)) (fun _ => rfl)
/-- The device's rows for itself. -/
abbrev locV (d : Dev nD) (i : ℕ) : Memref sig .tc .hbm (S2 i) .f32 :=
  (Memref.whole main_v1).slice (Rect.unit (s := S8192x4096) (k0_off2 d (BitVec.ofNat 32 (off i))) (S2 i).size (inbo2 d i)) (fun _ => rfl)
/-- The two buffers those rows are read into. -/
abbrev sV (i : ℕ) : Memref sig .tc .vmem (S2 i) .f32 := (Memref.whole cc0_scratch0).slice (rectL i) (fun _ => rfl)
abbrev lV (i : ℕ) : Memref sig .tc .vmem (S2 i) .f32 := (Memref.whole cc0_scratch1).slice (rectL i) (fun _ => rfl)
/-- The slot the first exchange sends from, and the slot it lands in. -/
abbrev xsV (i : ℕ) : Memref sig .tc .vmem (S2 i) .bf16 := ((Memref.whole cc0_scratch2).slice (rect4 i) (fun _ => rfl)).squeeze (S2 i) (sqz i)
abbrev xrV (i : ℕ) : Memref sig .tc .vmem (S2 i) .bf16 := ((Memref.whole cc0_scratch3).slice (rect18 i) (fun _ => rfl)).squeeze (S2 i) (sqz i)
/-- The slot a row block of the result waits in before it is copied out. -/
abbrev rsV (i : ℕ) : Memref sig .tc .vmem (S2 i) .f32 := ((Memref.whole cc0_scratch4).slice (rect2 i) (fun _ => rfl)).squeeze (S2 i) (sqz i)
/-- The slot the second exchange sends from, and the rows it lands in. -/
abbrev ysV (i : ℕ) : Memref sig .tc .vmem (S2 i) .bf16 := ((Memref.whole cc0_scratch5).slice (rect4 i) (fun _ => rfl)).squeeze (S2 i) (sqz i)
abbrev ygV (i : ℕ) : Memref sig .tc .hbm (S2 i) .bf16 := (Memref.whole main_v3_1).slice (rectY i) (fun _ => rfl)
/-- The slots the landed rows pass through on their way to the result. -/
abbrev yiV (i : ℕ) : Memref sig .tc .vmem (S2 i) .bf16 := ((Memref.whole cc0_scratch6).slice (rect2 i) (fun _ => rfl)).squeeze (S2 i) (sqz i)
abbrev ybV (i : ℕ) : Memref sig .tc .vmem (S2 i) .f32 := ((Memref.whole cc0_scratch7).slice (rect2 i) (fun _ => rfl)).squeeze (S2 i) (sqz i)
/-- The result's rows: the device's own, and its peer's. -/
abbrev outV (d : Dev nD) (i : ℕ) : Memref sig .tc .hbm (S2 i) .f32 :=
  (Memref.whole main_v3_0).slice (Rect.unit (s := S4096x4096) (k0_off3 d (BitVec.ofNat 32 (off i))) (S2 i).size (inb3 d i)) (fun _ => rfl)
abbrev othV (d : Dev nD) (i : ℕ) : Memref sig .tc .hbm (S2 i) .f32 :=
  (Memref.whole main_v3_0).slice (Rect.unit (s := S4096x4096) (k0_off7 d (BitVec.ofNat 32 (off i))) (S2 i).size (inb7 d i)) (fun _ => rfl)

theorem wxs (i : ℕ) : (xsV i).view.WordExact := ((Memref.isWhole_whole cc0_scratch2).wordExact_slice rfl _ (words4 i)).reshape _ _
theorem wxr (i : ℕ) : (xrV i).view.WordExact := ((Memref.isWhole_whole cc0_scratch3).wordExact_slice rfl _ (words18 i)).reshape _ _
theorem wys (i : ℕ) : (ysV i).view.WordExact := ((Memref.isWhole_whole cc0_scratch5).wordExact_slice rfl _ (words4 i)).reshape _ _
theorem wyg (i : ℕ) : (ygV i).view.WordExact := (Memref.isWhole_whole main_v3_1).wordExact_slice rfl _ (wordsY i)
theorem wyi (i : ℕ) : (yiV i).view.WordExact := ((Memref.isWhole_whole cc0_scratch6).wordExact_slice rfl _ (words2 i)).reshape _ _
theorem wrs (i : ℕ) : (rsV i).view.WordExact := (View.wordExact_bits rfl).reshape _ _
theorem wyb (i : ℕ) : (ybV i).view.WordExact := (View.wordExact_bits rfl).reshape _ _

/-! ## The semaphores -/

abbrev xsS (i : ℕ) : DmaSem sig := ((cc0_scratch8.slice (Rect.unit (s := S4) ![i % 4] S1.size (inbs4 i))).squeeze S_ squeezes_S1_S_).sem
abbrev xrS (i : ℕ) : DmaSem sig := ((cc0_scratch9.slice (Rect.unit (s := S18) ![i % 18] S1.size (inbs18 i))).squeeze S_ squeezes_S1_S_).sem
abbrev ysS (i : ℕ) : DmaSem sig := ((cc0_scratch10.slice (Rect.unit (s := S4) ![i % 4] S1.size (inbs4 i))).squeeze S_ squeezes_S1_S_).sem
abbrev yrS (i : ℕ) : DmaSem sig := ((cc0_scratch11.slice (Rect.unit (s := S18) ![i % 18] S1.size (inbs18 i))).squeeze S_ squeezes_S1_S_).sem
abbrev cpS (k : ℕ) : DmaSem sig := ((cc0_scratch12.slice (Rect.unit (s := S8) ![k % 8] S1.size (inbs8 k))).squeeze S_ squeezes_S1_S_).sem
abbrev barS : Sem sig := (SemArray.scalar (sig.barrier 0 rfl) : Sems sig S_).sem

/-! ## The steps -/

variable {F : FTy → Type} [FloatOps F]

/-- A kernel program over the float values `F`. -/
abbrev KP (F : FTy → Type) (α : Type) : Type 1 := Prog (TpuEff nD τ sig (Elt F) Λ₀ .tc) α

/-- A block of segment `i` narrowed for the exchange, laid out as a slot. -/
abbrev narrow (i : ℕ) (v : FVec F (S2 i) .f32) : FVec F (S3 i) .bf16 := shapeCast (S3 i) (truncf .bf16 v bitsLt_bf16_f32) (cast23 i)

/-- The normalised row block: own rows plus the peer's, scaled by the reciprocal root mean square and by gamma. -/
def normed (i : ℕ) (a : FVec F (S2 i) .f32) (b : FVec F (S3 i) .bf16) (g : FVec F S1x4096 .f32) : FVec F (S2 i) .f32 :=
  have v98 : FVec F (S2 i) .bf16 := shapeCast (S2 i) b (cast32 i)
  have v99 : FVec F (S2 i) .f32 := extf .f32 v98 bitsLt_bf16_f32
  have v100 : FVec F (S2 i) .f32 := addf a v99
  have v101 : FVec F (S2 i) .f32 := mulf v100 v100
  have v102 : FVec F (Srow i) .f32 := multiReduction .add [1] (Srow i) v101 0x00000000#32 (reds i) (.inl rfl) rfl
  have v103 : FVec F (Scol i) .f32 := shapeCast (Scol i) v102 (castRow i)
  have v104 : FVec F (Scol i) .f32 := broadcast (Scol i) (Scalar.ofBits .f32 0x45800000#32)
  have v105 : FVec F (Scol i) .f32 := divf v103 v104
  have v106 : FVec F (Scol i) .f32 := broadcast (Scol i) (Scalar.ofBits .f32 0x358637BD#32)
  have v107 : FVec F (Scol i) .f32 := addf v105 v106
  have v108 : FVec F (Scol i) .f32 := rsqrt v107
  have v109 : FVec F (S2 i) .f32 := broadcastTo (S2 i) v108 (bcCol i)
  have v110 : FVec F (S2 i) .f32 := mulf v100 v109
  have v112 : FVec F S1x4096 .f32 := shapeCast S1x4096 g shapeCasts_S1x4096_S1x4096
  have v113 : FVec F (S2 i) .f32 := broadcastTo (S2 i) v112 (bcGam i)
  mulf v110 v113

/-- A landed block widened for the result, laid out as a slot. -/
abbrev widen (i : ℕ) (b : FVec F (S3 i) .bf16) : FVec F (S3 i) .f32 :=
  shapeCast (S3 i) (extf .f32 (shapeCast (S2 i) b (cast32 i) : FVec F (S2 i) .bf16) bitsLt_bf16_f32 : FVec F (S2 i) .f32) (cast23 i)

/-- Send segment `i` to the peer across the first axis. -/
def issue (d : Dev nD) (i : ℕ) : KP F PUnit := do
  Prog.lift (.enqueueDma (srcV d i) (.here (sV i)) (.dma (cpS 0)) (View.wordExact_bits rfl) (View.wordExact_bits rfl) ⟨Or.inl rfl, trivial⟩)
  Prog.lift (.waitDma2 (cpS 0) (srcV d i) (sV i) (View.wordExact_bits rfl) (View.wordExact_bits rfl))
  let v : Vec F (S2 i) .f32 ← Prog.lift (.load (Memref.whole cc0_scratch0) (rectL i).toLoadRect (View.loadsAt_vmem (hS2 i)))
  let _w : Vec F (S3 i) .bf16 ← Prog.lift (.load (Memref.whole cc0_scratch2) (rect4 i).toLoadRect (View.loadsAt_vmem (hS3 i)))
  Prog.lift (.store (Memref.whole cc0_scratch2) (rect4 i) (narrow i v) Finset.univ
    (View.stores_vmem (hS3 i) ((Memref.isWhole_whole cc0_scratch2).storeExact_slice rfl _ (packed4 i)) (fun _ => rfl)) (.inl rfl))
  Prog.lift (.enqueueDma (xsV i) (.remote (Dev.tc (px d)) (xrV i) (.dma (xsS i))) (.dma (xrS i)) (wxs i) (wxr i) ⟨⟨rfl, Or.inl rfl⟩, trivial⟩)
/-- Start reading the device's own rows of segment `i`. -/
def cpLoc (d : Dev nD) (i : ℕ) : KP F PUnit :=
  Prog.lift (.enqueueDma (locV d i) (.here (lV i)) (.dma (cpS 1)) (View.wordExact_bits rfl) (View.wordExact_bits rfl) ⟨Or.inl rfl, trivial⟩)
/-- Wait until the first exchange's send of segment `i` has left its slot. -/
def waitXs (i : ℕ) : KP F PUnit := Prog.lift (.waitDma2 (xsS i) (xrV i) (xsV i) (wxr i) (wxs i))
/-- Wait until the second exchange's send of segment `i` has left its slot. -/
def waitYs (i : ℕ) : KP F PUnit := Prog.lift (.waitDma2 (ysS i) (ygV i) (ysV i) (wyg i) (wys i))
/-- Wait until segment `i` of the device's own rows has been copied out. -/
def waitCo (d : Dev nD) (i : ℕ) : KP F PUnit :=
  Prog.lift (.waitDma2 (cpS (2 + i % 2)) (rsV i) (outV d i) (wrs i) (View.wordExact_bits rfl))
/-- Wait until segment `i` of the peer's rows has been copied out. -/
def waitCy (d : Dev nD) (i : ℕ) : KP F PUnit :=
  Prog.lift (.waitDma2 (cpS (6 + i % 2)) (ybV i) (othV d i) (wyb i) (View.wordExact_bits rfl))
/-- Reduce and normalise segment `i`, send it across the second axis and copy it out. -/
def mainX (d : Dev nD) (i : ℕ) : KP F PUnit := do
  Prog.lift (.waitDma2 (xrS i) (xsV i) (xrV i) (wxs i) (wxr i))
  Prog.lift (.waitDma2 (cpS 1) (locV d i) (lV i) (View.wordExact_bits rfl) (View.wordExact_bits rfl))
  let a : Vec F (S2 i) .f32 ← Prog.lift (.load (Memref.whole cc0_scratch1) (rectL i).toLoadRect (View.loadsAt_vmem (hS2 i)))
  let b : Vec F (S3 i) .bf16 ← Prog.lift (.load (Memref.whole cc0_scratch3) (rect18 i).toLoadRect (View.loadsAt_vmem (hS3 i)))
  let g : Vec F S1x4096 .f32 ← Prog.lift (.load (Memref.whole cc0_stg0_0) (Rect.unit (s := S1x4096) ![0, 0] S1x4096.size inb_S1x4096_S1x4096_0_0).toLoadRect (View.loadsAt_vmem h_S1x4096))
  let _w : Vec F (S3 i) .f32 ← Prog.lift (.load (Memref.whole cc0_scratch4) (rect2 i).toLoadRect (View.loadsAt_vmem (hS3 i)))
  Prog.lift (.store (Memref.whole cc0_scratch4) (rect2 i) (shapeCast (S3 i) (normed i a b g) (cast23 i)) Finset.univ
    (View.stores_vmem_bits_univ (hS3 i) rfl) (.inl rfl))
  let _w : Vec F (S3 i) .bf16 ← Prog.lift (.load (Memref.whole cc0_scratch5) (rect4 i).toLoadRect (View.loadsAt_vmem (hS3 i)))
  Prog.lift (.store (Memref.whole cc0_scratch5) (rect4 i) (narrow i (normed i a b g)) Finset.univ
    (View.stores_vmem (hS3 i) ((Memref.isWhole_whole cc0_scratch5).storeExact_slice rfl _ (packed4 i)) (fun _ => rfl)) (.inl rfl))
  Prog.lift (.enqueueDma (ysV i) (.remote (Dev.tc (py d)) (ygV i) (.dma (ysS i))) (.dma (yrS i)) (wys i) (wyg i) ⟨⟨rfl, Or.inl rfl⟩, trivial⟩)
  Prog.lift (.enqueueDma (rsV i) (.here (outV d i)) (.dma (cpS (2 + i % 2))) (wrs i) (View.wordExact_bits rfl) ⟨Or.inl rfl, trivial⟩)
/-- Wait until the peer's segment `i` has landed. -/
def waitYr (i : ℕ) : KP F PUnit := Prog.lift (.waitDma2 (yrS i) (ysV i) (ygV i) (wys i) (wyg i))
/-- Widen the peer's segment `i` and copy it out. -/
def mainY (d : Dev nD) (i : ℕ) : KP F PUnit := do
  Prog.lift (.enqueueDma (ygV i) (.here (yiV i)) (.dma (cpS (4 + i % 2))) (wyg i) (wyi i) ⟨Or.inl rfl, trivial⟩)
  Prog.lift (.waitDma2 (cpS (4 + i % 2)) (ygV i) (yiV i) (wyg i) (wyi i))
  let b : Vec F (S3 i) .bf16 ← Prog.lift (.load (Memref.whole cc0_scratch6) (rect2 i).toLoadRect (View.loadsAt_vmem (hS3 i)))
  let _w : Vec F (S3 i) .f32 ← Prog.lift (.load (Memref.whole cc0_scratch7) (rect2 i).toLoadRect (View.loadsAt_vmem (hS3 i)))
  Prog.lift (.store (Memref.whole cc0_scratch7) (rect2 i) (widen i b) Finset.univ
    (View.stores_vmem_bits_univ (hS3 i) rfl) (.inl rfl))
  Prog.lift (.enqueueDma (ybV i) (.here (othV d i)) (.dma (cpS (6 + i % 2))) (wyb i) (View.wordExact_bits rfl) ⟨Or.inl rfl, trivial⟩)

/-- One step of the kernel, on one segment. -/
inductive Step
  | issue (i : ℕ) | cpLoc (i : ℕ) | waitXs (i : ℕ) | waitYs (i : ℕ) | waitCo (i : ℕ) | waitCy (i : ℕ)
  | mainX (i : ℕ) | waitYr (i : ℕ) | mainY (i : ℕ)

/-- The program of a step. -/
def Step.prog (d : Dev nD) : Step → KP F PUnit
  | .issue i => Run.issue d i
  | .cpLoc i => Run.cpLoc d i
  | .waitXs i => Run.waitXs i
  | .waitYs i => Run.waitYs i
  | .waitCo i => Run.waitCo d i
  | .waitCy i => Run.waitCy d i
  | .mainX i => Run.mainX d i
  | .waitYr i => Run.waitYr i
  | .mainY i => Run.mainY d i

/-- A list of steps as one program. -/
def runSteps (d : Dev nD) : List Step → KP F PUnit
  | [] => pure ⟨⟩
  | s :: ss => s.prog d >>= fun _ => runSteps d ss

/-- The steps that send segment `i`. -/
def stepsI (i : ℕ) : List Step := (bif Nat.ble 4 i then [.waitXs (i - 4)] else []) ++ [.issue i]
/-- The steps that reduce segment `i`. -/
def stepsX (i : ℕ) : List Step :=
  [.cpLoc i] ++ (bif Nat.ble 4 i then [.waitYs (i - 4)] else []) ++ (bif Nat.ble 2 i then [.waitCo (i - 2)] else []) ++ [.mainX i]
/-- The steps that take in the peer's segment `i`. -/
def stepsY (i : ℕ) : List Step := [.waitYr i] ++ (bif Nat.ble 2 i then [.waitCy (i - 2)] else []) ++ [.mainY i]
/-- The steps of turn `i`. -/
def stepsT (i : ℕ) : List Step :=
  stepsI i ++ (bif Nat.ble 1 i then stepsX (i - 1) else []) ++ (bif Nat.ble 3 i then stepsY (i - 3) else [])
/-- The steps of the whole kernel. -/
def steps : List Step :=
  (List.range 18).flatMap stepsT ++ stepsX 17 ++ stepsY 15 ++ stepsY 16 ++ stepsY 17
    ++ [.waitXs 14, .waitYs 14, .waitXs 15, .waitYs 15, .waitXs 16, .waitYs 16, .waitXs 17, .waitYs 17]
    ++ [.waitCo 16, .waitCo 17, .waitCy 16, .waitCy 17]

/-- The kernel's body as its steps: the two signals and the wait that bring the peers together, then the segments. -/
def body : KP F PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  runSteps d steps

set_option maxRecDepth 100000 in
/-- The printed body is the sequence of steps. -/
theorem body_eq (t : Fin cfg0.N) : bodyAt0 (F := F) t = body := by
  obtain rfl : t = ⟨0, by decide⟩ := Subsingleton.elim (α := Fin 1) _ _
  chain_rfl

end Cert.KernelIdeal.Run
-- ==== Proof.Sched.lean ====
/- What the devices tell each other while the kernel runs: the semaphore cells, the round each segment takes on its
   cell, what each round hands over, and the order in which a device may wait. -/
module

public import proofs.«01_k».proof.Proof.Segs
public import Idealize.ShloMosaic.Lib.Pipeline.Kit
public import Idealize.ShloMosaic.Lib.Rounds
public import Idealize.ShloMosaic.Lib.Rounds.Family
public import Idealize.ShloMosaic.Lib.StableHlo
public import Idealize.ShloMosaic.Lib.Tactic
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The resources: the pipeline library's rounds and the kernel's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Families of cells -/

/-- The kinds of transfer: the first exchange's send and landing, the second's, and the five local copies (rows for the
    peer in, own rows in, own result out, landed rows in, landed rows out). -/
inductive Fam
  | xs | xr | ys | yr | cp0 | cp1 | co | ci | cy
  deriving DecidableEq

instance : Fintype Fam := ⟨{.xs, .xr, .ys, .yr, .cp0, .cp1, .co, .ci, .cy}, fun f => by cases f <;> decide⟩

/-- The first semaphore of a kind. -/
def Fam.base : Fam → ℕ
  | .xs => 1 | .xr => 5 | .ys => 23 | .yr => 27 | .cp0 => 45 | .cp1 => 46 | .co => 47 | .ci => 49 | .cy => 51
/-- How many semaphores a kind has. -/
def Fam.w : Fam → ℕ
  | .xs => 4 | .xr => 18 | .ys => 4 | .yr => 18 | .cp0 => 1 | .cp1 => 1 | .co => 2 | .ci => 2 | .cy => 2
/-- The element type a kind moves. -/
def Fam.elt : Fam → EltTy
  | .xs => .bf16 | .xr => .bf16 | .ys => .bf16 | .yr => .bf16 | .cp0 => .f32 | .cp1 => .f32 | .co => .f32 | .ci => .bf16 | .cy => .f32

theorem Fam.w_pos (f : Fam) : 0 < f.w := by cases f <;> decide
theorem Fam.fits (f : Fam) (k : ℕ) : f.base + k % f.w < 53 := by
  have := Nat.mod_lt k f.w_pos
  cases f <;> simp only [Fam.base, Fam.w] at * <;> omega

/-- The semaphore of segment `i`. -/
def Fam.sem (f : Fam) (i : ℕ) : DmaSem sig := ⟨f.base + i % f.w, f.fits i⟩
/-- What segment `i` credits. -/
def Fam.amt (f : Fam) (i : ℕ) : ℕ := RefSig.tileCredit (S2 i) f.elt
theorem Fam.amt_pos (f : Fam) (i : ℕ) : 0 < f.amt i := RefSig.tileCredit_pos _ _ (hS2 i)

/-- The kind and place of a semaphore. -/
def dec (n : ℕ) : Option (Fam × ℕ) :=
  if n = 0 then none else if n < 5 then some (.xs, n - 1) else if n < 23 then some (.xr, n - 5)
  else if n < 27 then some (.ys, n - 23) else if n < 45 then some (.yr, n - 27) else if n < 46 then some (.cp0, n - 45)
  else if n < 47 then some (.cp1, n - 46) else if n < 49 then some (.co, n - 47) else if n < 51 then some (.ci, n - 49)
  else some (.cy, n - 51)

theorem dec_sem (f : Fam) (i : ℕ) : dec (f.sem i).val = some (f, i % f.w) :=
  (by decide : ∀ (f : Fam) (k : Fin f.w), dec (f.base + k) = some (f, k.val)) f ⟨i % f.w, Nat.mod_lt i f.w_pos⟩

theorem round_add (f : Fam) (i : ℕ) : i / f.w * f.w + i % f.w = i := by
  rw [Nat.mul_comm]; exact Nat.div_add_mod i f.w

theorem sem_xs (i : ℕ) : xsS i = Fam.xs.sem i :=
  (by decide : ∀ k : Fin 4, ∀ h, ((cc0_scratch8.slice (Rect.unit (s := S4) ![(k : ℕ)] S1.size h)).squeeze S_ squeezes_S1_S_).sem
    = (⟨1 + k, by omega⟩ : Fin 53)) ⟨i % 4, Nat.mod_lt _ (by decide)⟩ (inbs4 i)
theorem sem_xr (i : ℕ) : xrS i = Fam.xr.sem i :=
  (by decide : ∀ k : Fin 18, ∀ h, ((cc0_scratch9.slice (Rect.unit (s := S18) ![(k : ℕ)] S1.size h)).squeeze S_ squeezes_S1_S_).sem
    = (⟨5 + k, by omega⟩ : Fin 53)) ⟨i % 18, Nat.mod_lt _ (by decide)⟩ (inbs18 i)
theorem sem_ys (i : ℕ) : ysS i = Fam.ys.sem i :=
  (by decide : ∀ k : Fin 4, ∀ h, ((cc0_scratch10.slice (Rect.unit (s := S4) ![(k : ℕ)] S1.size h)).squeeze S_ squeezes_S1_S_).sem
    = (⟨23 + k, by omega⟩ : Fin 53)) ⟨i % 4, Nat.mod_lt _ (by decide)⟩ (inbs4 i)
theorem sem_yr (i : ℕ) : yrS i = Fam.yr.sem i :=
  (by decide : ∀ k : Fin 18, ∀ h, ((cc0_scratch11.slice (Rect.unit (s := S18) ![(k : ℕ)] S1.size h)).squeeze S_ squeezes_S1_S_).sem
    = (⟨27 + k, by omega⟩ : Fin 53)) ⟨i % 18, Nat.mod_lt _ (by decide)⟩ (inbs18 i)
theorem cpS_val (k : ℕ) : cpS k = (⟨45 + k % 8, by omega⟩ : Fin 53) :=
  (by decide : ∀ k : Fin 8, ∀ h, ((cc0_scratch12.slice (Rect.unit (s := S8) ![(k : ℕ)] S1.size h)).squeeze S_ squeezes_S1_S_).sem
    = (⟨45 + k, by omega⟩ : Fin 53)) ⟨k % 8, Nat.mod_lt _ (by decide)⟩ (inbs8 k)
theorem sem_cp0 (i : ℕ) : cpS 0 = Fam.cp0.sem i := by
  rw [cpS_val]; exact Fin.ext (by simp only [Fam.sem, Fam.base, Fam.w]; omega)
theorem sem_cp1 (i : ℕ) : cpS 1 = Fam.cp1.sem i := by
  rw [cpS_val]; exact Fin.ext (by simp only [Fam.sem, Fam.base, Fam.w]; omega)
theorem sem_co (i : ℕ) : cpS (2 + i % 2) = Fam.co.sem i := by
  rw [cpS_val]; exact Fin.ext (by simp only [Fam.sem, Fam.base, Fam.w]; omega)
theorem sem_ci (i : ℕ) : cpS (4 + i % 2) = Fam.ci.sem i := by
  rw [cpS_val]; exact Fin.ext (by simp only [Fam.sem, Fam.base, Fam.w]; omega)
theorem sem_cy (i : ℕ) : cpS (6 + i % 2) = Fam.cy.sem i := by
  rw [cpS_val]; exact Fin.ext (by simp only [Fam.sem, Fam.base, Fam.w]; omega)

/-! ## The peers -/

theorem px_px : ∀ d : Dev nD, px (px d) = d := by decide +kernel
theorem py_py : ∀ d : Dev nD, py (py d) = d := by decide +kernel
theorem px_ne_py : ∀ d : Dev nD, px d ≠ py d := by decide +kernel
theorem dev1_eq : ∀ d : Dev nD, (⟨k0_dev1 d, k0_dev1_lt d⟩ : Dev nD) = px d := by decide +kernel
theorem dev2_eq : ∀ d : Dev nD, (⟨k0_dev2 d, k0_dev2_lt d⟩ : Dev nD) = py d := by decide +kernel

/-! ## Cells and pieces of buffers -/

/-- The cell of segment `i` on device `d`. -/
abbrev cell (d : Dev nD) (f : Fam) (i : ℕ) : GSem nD τ sig := ((d : Thread nD τ), .dma (f.sem i))
abbrev barCell (d : Dev nD) : GSem nD τ sig := ((d : Thread nD τ), .reg barS)

theorem sem_add (f : Fam) (i : ℕ) : f.sem (i + f.w) = f.sem i := Fin.ext (by simp only [Fam.sem, Nat.add_mod_right])
theorem rd_add (f : Fam) (i : ℕ) : (i + f.w) / f.w = i / f.w + 1 := Nat.add_div_right i f.w_pos

/-- A view's elements on a device, at the contents `g`. -/
abbrev pts {sp : Space} {s : Shape} {e : EltTy} (d : Dev nD) (V : Memref sig .tc sp s e) (g : Buf (Elt F) (V.view.loc (d : Thread nD τ))) : sProp 𝕄 :=
  V.view.loc (d : Thread nD τ) ↦[V.view.set]{fullShare} g
/-- A view's elements, at contents not named. -/
def any {sp : Space} {s : Shape} {e : EltTy} (d : Dev nD) (V : Memref sig .tc sp s e) : sProp 𝕄 :=
  iprop(∃ g : Buf (Elt F) (V.view.loc (d : Thread nD τ)), pts d V g)
/-- A view's elements, reading `v`. -/
def has {sp : Space} {s : Shape} {e : EltTy} (d : Dev nD) (V : Memref sig .tc sp s e) (v : s.Idx → Elt F e) : sProp 𝕄 :=
  iprop(∃ g : Buf (Elt F) (V.view.loc (d : Thread nD τ)), ⌜V.view.read (Elt F) g = v⌝ ∗ pts d V g)

instance {sp : Space} {s : Shape} {e : EltTy} (d : Dev nD) (V : Memref sig .tc sp s e) :
    BI.Storable (upEmb : UEmb _ 𝕄) (any (F := F) d V) := by unfold any; infer_instance
instance {sp : Space} {s : Shape} {e : EltTy} (d : Dev nD) (V : Memref sig .tc sp s e) (v : s.Idx → Elt F e) :
    BI.Storable (upEmb : UEmb _ 𝕄) (has (F := F) d V v) := by unfold has; infer_instance

theorem has_any {sp : Space} {s : Shape} {e : EltTy} (d : Dev nD) (V : Memref sig .tc sp s e) (v : s.Idx → Elt F e) :
    has d V v ⊢ (any d V : sProp 𝕄) := by
  unfold has any
  iintro ⟨%g, -, H⟩
  iexists g; iexact H

/-! ## Contents -/

/-- A row block read in a stack of slots, by its row and column. -/
abbrev sq (i : ℕ) : (S2 i).Idx ≃ (S3 i).Idx := Shape.reshapeEquiv (sqz i).numel_eq

variable (P : Dev nD → main_v1.ty.Contents (Elt F)) (Gm : Dev nD → cc0_stg0_0.ty.Contents (Elt F))

/-- What device `d` sends across the first axis. -/
abbrev xv (d : Dev nD) (i : ℕ) : FVec F (S3 i) .bf16 := narrow i ((srcV d i).view.read (Elt F) (P d))
/-- Gamma as the kernel loads it. -/
abbrev gm (d : Dev nD) : FVec F S1x4096 .f32 :=
  ((Memref.whole cc0_stg0_0).access (Rect.unit (s := S1x4096) ![0, 0] S1x4096.size inb_S1x4096_S1x4096_0_0)).read (Elt F) (Gm d)
/-- The row block device `d` normalises. -/
abbrev nv (d : Dev nD) (i : ℕ) : FVec F (S2 i) .f32 :=
  normed i ((locV d i).view.read (Elt F) (P d)) (xv P (px d) i) (gm Gm d)
/-- What it copies to its own part of the result. -/
abbrev ov (d : Dev nD) (i : ℕ) : (S2 i).Idx → Elt F .f32 := fun x => (shapeCast (S3 i) (nv P Gm d i) (cast23 i) : FVec F (S3 i) .f32) (sq i x)
/-- What it sends across the second axis. -/
abbrev yv (d : Dev nD) (i : ℕ) : FVec F (S3 i) .bf16 := narrow i (nv P Gm d i)
/-- What it copies to its peer's part of its result. -/
abbrev wv (d : Dev nD) (i : ℕ) : (S2 i).Idx → Elt F .f32 := fun x => (widen i (yv P Gm (py d) i) : FVec F (S3 i) .f32) (sq i x)
/-- The two exchanged blocks as they land. -/
abbrev xl (d : Dev nD) (i : ℕ) : (S2 i).Idx → Elt F .bf16 := fun x => xv P (px d) i (sq i x)
abbrev yl (d : Dev nD) (i : ℕ) : (S2 i).Idx → Elt F .bf16 := fun x => yv P Gm (py d) i (sq i x)

/-! ## The schedule -/

/-- What segment `i`'s round of a kind hands to device `d`. -/
def pay (f : Fam) (d : Dev nD) (i : ℕ) : sProp 𝕄 := match f with
  | .xs => any d (xsV i)
  | .xr => has d (xrV i) (xl P d i)
  | .ys => any d (ysV i)
  | .yr => has d (ygV i) (yl P Gm d i)
  | .cp0 => iprop(has d (sV i) ((srcV d i).view.read (Elt F) (P d)) ∗ pts d (srcV d i) (P d))
  | .cp1 => iprop(has d (lV i) ((locV d i).view.read (Elt F) (P d)) ∗ pts d (locV d i) (P d))
  | .co => iprop(has d (outV d i) (ov P Gm d i) ∗ any d (rsV i))
  | .ci => iprop(has d (yiV i) (yl P Gm d i) ∗ any d (ygV i))
  | .cy => iprop(has d (othV d i) (wv P Gm d i) ∗ any d (ybV i))

instance pay_storable (f : Fam) (d : Dev nD) (i : ℕ) : BI.Storable (upEmb : UEmb _ 𝕄) (pay P Gm f d i) := by
  unfold pay; cases f <;> infer_instance

/-- What the signal from the peer across the first axis hands over: the peer's landing slots. -/
def barX (d : Dev nD) : sProp 𝕄 :=
  bigSep (Finset.Ico 0 18) fun i => iprop(reached ER (cell (px d) .xr i) (i / Fam.xr.w) ∗ any (px d) (xrV i))
/-- What the signal from the peer across the second axis hands over: the peer's landing rows. -/
def barY (d : Dev nD) : sProp 𝕄 :=
  bigSep (Finset.Ico 0 18) fun i => iprop(reached ER (cell (py d) .yr i) (i / Fam.yr.w) ∗ any (py d) (ygV i))

instance (d : Dev nD) : BI.Storable (upEmb : UEmb _ 𝕄) (barX (F := F) d) := by unfold barX; infer_instance
instance (d : Dev nD) : BI.Storable (upEmb : UEmb _ 𝕄) (barY (F := F) d) := by unfold barY; infer_instance

/-- The duties of a semaphore's round. -/
def dutiesS (s : SemLoc sig) (r : ℕ) : Finset Bool := match s with
  | .reg _ => if r = 0 then {true, false} else ∅
  | .dma s => match dec s.val with
    | none => ∅
    | some (f, k) => if r * f.w + k < 18 then {true} else ∅
/-- What a duty of the round contributes. -/
def amountS (s : SemLoc sig) (r : ℕ) : ℕ := match s with
  | .reg _ => 1
  | .dma s => match dec s.val with
    | none => 1
    | some (f, k) => f.amt (r * f.w + k)
/-- What a duty of the round hands over. -/
def payS (d : Dev nD) (s : SemLoc sig) (r : ℕ) (b : Bool) : sProp 𝕄 := match s with
  | .reg _ => bif b then barX d else barY d
  | .dma s => match dec s.val with
    | none => iprop(emp)
    | some (f, k) => pay P Gm f d (r * f.w + k)

instance payS_storable (d : Dev nD) (s : SemLoc sig) (r : ℕ) (b : Bool) : BI.Storable (upEmb : UEmb _ 𝕄) (payS P Gm d s r b) := by
  unfold payS
  split
  · cases b <;> (dsimp only [cond]; infer_instance)
  · split <;> infer_instance

/-- The kernel's schedule. -/
def talkRd : Rounds.Schedule (GSem nD τ sig) Bool 𝕄 where
  duties g r := if g.1.2 = .tc then dutiesS g.2 r else ∅
  amount g r _ := amountS g.2 r
  payload g r b := payS P Gm g.1.1 g.2 r b
  amount_pos g r _ _ := by
    show 0 < amountS g.2 r
    unfold amountS
    split
    · exact Nat.one_pos
    · split
      · exact Nat.one_pos
      · exact Fam.amt_pos _ _
  unitless _ := False

instance talkRd_storable (g : GSem nD τ sig) (r : ℕ) (b : Bool) : BI.Storable (upEmb : UEmb _ 𝕄) ((talkRd P Gm).payload g r b) := by
  show BI.Storable upEmb (payS P Gm g.1.1 g.2 r b); infer_instance

theorem duties_cell (d : Dev nD) (f : Fam) (i : ℕ) (h : i < 18) : (talkRd P Gm).duties (cell d f i) (i / f.w) = {true} := by
  show (if (.tc : Proc τ) = .tc then dutiesS (.dma (f.sem i)) (i / f.w) else ∅) = _
  rw [if_pos rfl]; unfold dutiesS; simp only [dec_sem, round_add, if_pos h]
theorem duties_after (d : Dev nD) (f : Fam) (i : ℕ) (h : 18 ≤ i) (r : ℕ) (hr : i / f.w ≤ r) : (talkRd P Gm).duties (cell d f i) r = ∅ := by
  show (if (.tc : Proc τ) = .tc then dutiesS (.dma (f.sem i)) r else ∅) = _
  rw [if_pos rfl]; unfold dutiesS; simp only [dec_sem]
  have := Nat.mul_le_mul_right f.w hr; have := round_add f i
  exact if_neg (by omega)
theorem amount_cell (d : Dev nD) (f : Fam) (i : ℕ) (b : Bool) : (talkRd P Gm).amount (cell d f i) (i / f.w) b = f.amt i := by
  show amountS (.dma (f.sem i)) (i / f.w) = _
  unfold amountS; simp only [dec_sem, round_add]
theorem payload_cell (d : Dev nD) (f : Fam) (i : ℕ) (b : Bool) : (talkRd P Gm).payload (cell d f i) (i / f.w) b = pay P Gm f d i := by
  show payS P Gm d (.dma (f.sem i)) (i / f.w) b = _
  unfold payS; simp only [dec_sem, round_add]
theorem expect_cell (d : Dev nD) (f : Fam) (i : ℕ) (h : i < 18) : (talkRd P Gm).expect (cell d f i) (i / f.w) = f.amt i := by
  unfold Schedule.expect Schedule.amountOf; rw [duties_cell P Gm d f i h, Finset.sum_singleton, amount_cell]
theorem rest_cell (d : Dev nD) (f : Fam) (i : ℕ) (h : i < 18) :
    bigSep ((talkRd P Gm).duties (cell d f i) (i / f.w) \ ∅) (fun u => (talkRd P Gm).payload (cell d f i) (i / f.w) u) = pay P Gm f d i := by
  rw [Finset.sdiff_empty, duties_cell P Gm d f i h, bigSep_singleton, payload_cell]

theorem duties_bar (d : Dev nD) : (talkRd P Gm).duties (barCell d) 0 = {true, false} := rfl
theorem duties_bar_after (d : Dev nD) (r : ℕ) (hr : 1 ≤ r) : (talkRd P Gm).duties (barCell d) r = ∅ := by
  show (if (.tc : Proc τ) = .tc then (if r = 0 then {true, false} else ∅) else ∅) = _
  rw [if_pos rfl, if_neg (by omega)]
theorem amount_bar (d : Dev nD) (b : Bool) : (talkRd P Gm).amount (barCell d) 0 b = 1 := rfl
theorem payload_barX (d : Dev nD) : (talkRd P Gm).payload (barCell d) 0 true = barX d := rfl
theorem payload_barY (d : Dev nD) : (talkRd P Gm).payload (barCell d) 0 false = barY d := rfl
theorem expect_bar (d : Dev nD) : (talkRd P Gm).expect (barCell d) 0 = 2 := by
  unfold Schedule.expect Schedule.amountOf; rw [duties_bar, Finset.sum_pair (by decide)]; rfl
theorem rest_bar (d : Dev nD) :
    bigSep ((talkRd P Gm).duties (barCell d) 0 \ ∅) (fun u => (talkRd P Gm).payload (barCell d) 0 u) = iprop(barX d ∗ barY d) := by
  rw [Finset.sdiff_empty, duties_bar, bigSep_insert (by decide), bigSep_singleton]; rfl

/-! ## What is owed, and the order of waits -/

/-- What device `d` still owes its peers when it has sent `a` segments across the first axis and `b` across the second. -/
def owe (d : Dev nD) (a b : ℕ) : CellTallies nD τ sig Unit :=
  (∑ i ∈ Finset.Ico a 18, tallyAt (cell (px d) .xr i) () (Fam.xr.amt i)) + ∑ i ∈ Finset.Ico b 18, tallyAt (cell (py d) .yr i) () (Fam.yr.amt i)

theorem Ico_head {a b : ℕ} (h : a < b) : Finset.Ico a b = insert a (Finset.Ico (a + 1) b) := by
  ext x; simp only [Finset.mem_Ico, Finset.mem_insert]; omega
theorem Ico_last {a b : ℕ} (h : a ≤ b) : Finset.Ico a (b + 1) = insert b (Finset.Ico a b) := by
  ext x; simp only [Finset.mem_Ico, Finset.mem_insert]; omega

theorem owe_x (d : Dev nD) (a b : ℕ) (h : a < 18) : owe d a b = owe d (a + 1) b + tallyAt (cell (px d) .xr a) () (Fam.xr.amt a) := by
  unfold owe
  rw [Ico_head h, Finset.sum_insert (by rw [Finset.mem_Ico]; omega), add_comm (tallyAt _ _ _) (∑ _ ∈ _, _), add_right_comm]
theorem owe_y (d : Dev nD) (a b : ℕ) (h : b < 18) : owe d a b = owe d a (b + 1) + tallyAt (cell (py d) .yr b) () (Fam.yr.amt b) := by
  unfold owe
  rw [Ico_head h, Finset.sum_insert (by rw [Finset.mem_Ico]; omega), add_comm (tallyAt _ _ _) (∑ _ ∈ Finset.Ico (b + 1) 18, _), add_assoc]
theorem owe_done (d : Dev nD) : owe d 18 18 = 0 := by
  unfold owe; rw [Finset.Ico_self, Finset.sum_empty, Finset.sum_empty, add_zero]

/-- A sum of dues is due only where one of them is. -/
theorem sum_pos {S : Finset ℕ} {T : ℕ → CellTallies nD τ sig Unit} {g : GSem nD τ sig} {u : Unit} (h : 0 < (∑ i ∈ S, T i) g u) :
    ∃ i ∈ S, 0 < T i g u := by
  induction S using Finset.induction_on with
  | empty => exact absurd h (Nat.lt_irrefl 0)
  | insert i S hi ih =>
    rw [Finset.sum_insert hi, Pi.add_apply, Finsupp.add_apply] at h
    rcases Nat.add_pos_iff_pos_or_pos.mp h with h | h
    · exact ⟨i, Finset.mem_insert_self _ _, h⟩
    · obtain ⟨j, hj, h⟩ := ih h; exact ⟨j, Finset.mem_insert_of_mem hj, h⟩

theorem tally_pos {g₀ g : GSem nD τ sig} {n : ℕ} {u : Unit} (h : 0 < (tallyAt g₀ () n : CellTallies nD τ sig Unit) g u) : g = g₀ := by
  rw [tallyAt_apply] at h
  split at h
  · next hg => exact hg.1
  · exact absurd h (Nat.lt_irrefl 0)

theorem owe_pos {d : Dev nD} {a b : ℕ} {g : GSem nD τ sig} {u : Unit} (h : 0 < owe d a b g u) :
    ∃ i < 18, (a ≤ i ∧ g = cell (px d) .xr i) ∨ (b ≤ i ∧ g = cell (py d) .yr i) := by
  unfold owe at h
  rw [Pi.add_apply, Finsupp.add_apply] at h
  rcases Nat.add_pos_iff_pos_or_pos.mp h with h | h
  · obtain ⟨i, hi, h⟩ := sum_pos h; rw [Finset.mem_Ico] at hi
    exact ⟨i, hi.2, .inl ⟨hi.1, tally_pos h⟩⟩
  · obtain ⟨i, hi, h⟩ := sum_pos h; rw [Finset.mem_Ico] at hi
    exact ⟨i, hi.2, .inr ⟨hi.1, tally_pos h⟩⟩

/-- The cells that take part: every cell of a TensorCore. -/
def L (g : GSem nD τ sig) : Finset Unit := if g.1.2 = .tc then {()} else ∅
/-- The order: the barrier at 1, segment `i`'s landings at `2i + 2` and `2i + 3`, the rest at 0. -/
def lvS (s : SemLoc sig) : ℕ := match s with
  | .reg _ => 1
  | .dma s => match dec s.val with
    | some (.xr, k) => 2 * k + 2
    | some (.yr, k) => 2 * k + 3
    | _ => 0
def lv (g : GSem nD τ sig) (_ : Unit) : ℕ := lvS g.2

theorem L_of_ne (g : GSem nD τ sig) (h : g.1.2 ≠ .tc) : L g = ∅ := if_neg h
theorem L_tc (d : Dev nD) (sm : SemLoc sig) : L ((d : Thread nD τ), sm) = {()} := if_pos rfl

/-- The level of segment `i`'s cell. -/
def Fam.lvl (f : Fam) (i : ℕ) : ℕ := match f with
  | .xr => 2 * i + 2
  | .yr => 2 * i + 3
  | _ => 0

theorem lv_cell (d : Dev nD) (f : Fam) (i : ℕ) (h : i < 18) : lv (cell d f i) () = f.lvl i := by
  show lvS (.dma (f.sem i)) = _
  unfold lvS; simp only [dec_sem]
  cases f <;> simp only [Fam.lvl, Fam.w] <;> omega

/-- A device may wait at a level below everything it owes. -/
theorem mayWait (d : Dev nD) (sm : SemLoc sig) (a b : ℕ) (n : ℕ) (hn : lv ((d : Thread nD τ), sm) () ≤ n) (ha : n < 2 * a + 2) (hb : n < 2 * b + 3) :
    (levAts L lv : sProp 𝕄) ⊢ MayWait (d : Thread nD τ) sm () (owe d a b) :=
  MayOwe.of_cut (L := L) (lev := lv) n (fun p hp => by rw [Finset.mem_singleton.mp hp, L_tc]; exact Finset.mem_singleton_self _)
    (fun g u hg => by
      obtain ⟨i, hi, ⟨-, rfl⟩ | ⟨-, rfl⟩⟩ := owe_pos hg <;> (rw [L_tc]; exact Finset.mem_singleton_self _))
    (fun p hp => by rw [Finset.mem_singleton.mp hp]; exact hn)
    (fun g u hg => by
      obtain ⟨i, hi, ⟨h, rfl⟩ | ⟨h, rfl⟩⟩ := owe_pos hg
      · rw [lv_cell _ _ _ hi]; simp only [Fam.lvl]; omega
      · rw [lv_cell _ _ _ hi]; simp only [Fam.lvl]; omega)

end Cert.KernelIdeal.Run
-- ==== Proof.Moves.lean ====
/- The moves a step is made of: what a device holds of a kind of transfer while its segments go by, buffers with some of
   their pieces away, and the rules for waiting, copying and sending one segment. -/
module

public import proofs.«01_k».proof.Proof.Sched
public import Idealize.ShloMosaic.Lib.ReshapeSlab
public import Idealize.ShloMosaic.Lib.ViewIndex
public import Idealize.SL.BI.BigOpNat

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → main_v1.ty.Contents (Elt F)) (Gm : Dev nD → cc0_stg0_0.ty.Contents (Elt F))

abbrev 𝒱₀ : Variants := Variants.none

/-- One conjunct of many. -/
theorem big_one {I : Type} [DecidableEq I] {S : Finset I} (Φ : I → sProp 𝕄) {i : I} (h : i ∈ S) : bigSep S Φ ⊢ Φ i := bigSep_elim h

/-! ## The cells that talk -/

/-- A kind and one of its semaphores. -/
abbrev Kix : Type := Σ f : Fam, Fin f.w
/-- The semaphore at such an index. -/
def osem (k : Kix) : SemLoc sig := .dma (k.1.sem k.2.val)

theorem osem_inj : Function.Injective osem := by
  rintro ⟨f, k⟩ ⟨f', k'⟩ h
  have h1 : f.sem k.val = f'.sem k'.val := SemLoc.dma.inj h
  have h2 : some (f, k.val % f.w) = some (f', k'.val % f'.w) := by rw [← dec_sem, ← dec_sem, h1]
  obtain ⟨rfl, h3⟩ := Prod.mk.inj (Option.some.inj h2)
  rw [Nat.mod_eq_of_lt k.isLt, Nat.mod_eq_of_lt k'.isLt] at h3
  rw [Fin.ext h3]

theorem sem_mod (f : Fam) (i : ℕ) : f.sem (i % f.w) = f.sem i := Fin.ext (by simp only [Fam.sem, Nat.mod_mod])

theorem cell_eq (d : Dev nD) (f : Fam) (i : ℕ) : cell d f i = ((d : Thread nD τ), osem ⟨f, ⟨i % f.w, Nat.mod_lt i f.w_pos⟩⟩) := by
  show (_, _) = _; unfold osem; dsimp only; rw [sem_mod]

/-- The barrier cells, one per device. -/
def barEmb : Dev nD ↪ GSem nD τ sig := ⟨barCell, fun a b h => congrArg (fun g : GSem nD τ sig => g.1.1) h⟩
/-- The transfer cells, all kinds on all devices. -/
def scEmb : Dev nD × Kix ↪ GSem nD τ sig := ⟨fun p => ((p.1 : Thread nD τ), osem p.2), fun a b h =>
  Prod.ext (congrArg (fun g : GSem nD τ sig => g.1.1) h) (osem_inj (congrArg Prod.snd h))⟩
def barCells : Finset (GSem nD τ sig) := Finset.univ.map barEmb
def scCells : Finset (GSem nD τ sig) := Finset.univ.map scEmb

/-- Every talking cell's invariant, at its name. -/
def invs (K : GSem nD τ sig → ℕ) : sProp 𝕄 :=
  iprop((bigSep barCells fun g => cellInv ER (talkRd P Gm) (K g) g) ∗ bigSep scCells fun g => cellInv ER (talkRd P Gm) (K g) g)
instance invs_persistent (K : GSem nD τ sig → ℕ) : BI.Persistent (invs P Gm K) := by unfold invs; infer_instance

theorem inv_cell (K : GSem nD τ sig → ℕ) (d : Dev nD) (f : Fam) (i : ℕ) :
    invs P Gm K ⊢ cellInv ER (talkRd P Gm) (K (cell d f i)) (cell d f i) := by
  unfold invs
  iintro ⟨-, H⟩
  iapply (big_one (fun g => cellInv ER (talkRd P Gm) (K g) g)
    (show cell d f i ∈ scCells from Finset.mem_map.mpr ⟨(d, ⟨f, ⟨i % f.w, Nat.mod_lt i f.w_pos⟩⟩), Finset.mem_univ _, (cell_eq d f i).symm⟩))
  iexact H
theorem inv_bar (K : GSem nD τ sig → ℕ) (d : Dev nD) : invs P Gm K ⊢ cellInv ER (talkRd P Gm) (K (barCell d)) (barCell d) := by
  unfold invs
  iintro ⟨H, -⟩
  iapply (big_one (fun g => cellInv ER (talkRd P Gm) (K g) g)
    (show barCell d ∈ barCells from Finset.mem_map.mpr ⟨d, Finset.mem_univ _, rfl⟩))
  iexact H

/-- What every step uses and nothing consumes: the invariants and the levels. -/
def ctx (K : GSem nD τ sig → ℕ) : sProp 𝕄 := iprop(invs P Gm K ∗ levAts L lv)
instance ctx_persistent (K : GSem nD τ sig → ℕ) : BI.Persistent (ctx P Gm K) := by unfold ctx; infer_instance

/-! ## A kind of transfer on a device -/

/-- Device `d`'s hold on a kind: segments below `a` have been waited for, those below `b` have been started. -/
def Own (f : Fam) (d : Dev nD) (a b : ℕ) : sProp 𝕄 :=
  iprop((bigSep (Finset.Ico b 18) fun i => dutyTok ER (cell d f i) (i / f.w) true)
    ∗ (bigSep (Finset.Ico a b) fun i => cred (tallyAt (cell d f i) () (f.amt i)))
    ∗ (bigSep (Finset.Ico a (a + f.w)) fun i => atPos ER (cell d f i) (i / f.w) ∅ 0)
    ∗ bigSep (Finset.Ico 0 (a + f.w)) fun i => reached ER (cell d f i) (i / f.w))

/-- To start segment `b`: its token, and its credit is kept. -/
theorem own_start (f : Fam) (d : Dev nD) (a b : ℕ) (hab : a ≤ b) (hb : b < 18) (hw : b < a + f.w) :
    (Own f d a b : sProp 𝕄) ⊢ iprop(dutyTok ER (cell d f b) (b / f.w) true ∗ reached ER (cell d f b) (b / f.w)
      ∗ (cred (tallyAt (cell d f b) () (f.amt b)) -∗ Own f d a (b + 1))) := by
  unfold Own
  rw [bigSep_Ico_succ_bot hb, bigSep_Ico_succ_top hab]
  iintro ⟨⟨Ht, HT⟩, HC, HP, #HR⟩
  isplitl [Ht]; · iexact Ht
  isplitr
  · iapply (big_one (fun i => reached ER (cell d f i) (i / f.w)) (show b ∈ _ from Finset.mem_Ico.mpr ⟨Nat.zero_le _, hw⟩))
    iexact HR
  iintro Hc
  isplitl [HT]; · iexact HT
  isplitl [Hc HC]; · isplitl [Hc]; · iexact Hc
                     iexact HC
  isplitl [HP]; · iexact HP
  iexact HR

/-- To wait for segment `a`: its credit and the position, which comes back a round on. -/
theorem own_wait (f : Fam) (d : Dev nD) (a b : ℕ) (hab : a < b) :
    (Own f d a b : sProp 𝕄) ⊢ iprop(cred (tallyAt (cell d f a) () (f.amt a)) ∗ atPos ER (cell d f a) (a / f.w) ∅ 0
      ∗ ((atPos ER (cell d f a) (a / f.w + 1) ∅ 0 ∗ reached ER (cell d f a) (a / f.w + 1)) -∗ Own f d (a + 1) b)) := by
  unfold Own
  have hw := f.w_pos
  rw [bigSep_Ico_succ_bot hab, bigSep_Ico_succ_bot (show a < a + f.w by omega), show a + 1 + f.w = a + f.w + 1 by omega,
    bigSep_Ico_succ_top (show a + 1 ≤ a + f.w by omega), bigSep_Ico_succ_top (show 0 ≤ a + f.w by omega),
    show cell d f (a + f.w) = cell d f a by unfold cell; rw [sem_add], rd_add]
  iintro ⟨HT, ⟨Hc, HC⟩, ⟨Hp, HP⟩, HR⟩
  isplitl [Hc]; · iexact Hc
  isplitl [Hp]; · iexact Hp
  iintro ⟨Hp, Hr⟩
  isplitl [HT]; · iexact HT
  isplitl [HC]; · iexact HC
  isplitl [Hp HP]; · isplitl [Hp]; · iexact Hp
                     iexact HP
  isplitl [Hr]; · iexact Hr
  iexact HR

/-! ## Buffers with pieces away -/

/-- A buffer at some contents, the pieces numbered from `a` to `n` away. -/
def Ring (ℓ : Loc nD τ sig) (S : ℕ → Finset (Idx ℓ)) (a n : ℕ) : sProp 𝕄 :=
  iprop(∃ f : Buf (Elt F) ℓ, ℓ ↦[Finset.univ \ (Finset.Ico a n).biUnion S]{fullShare} f)

theorem away_sub {ℓ : Loc nD τ sig} (S : ℕ → Finset (Idx ℓ)) (a n : ℕ) (h : ∀ j, a ≤ j → j < n → Disjoint (S j) (S n)) :
    S n ⊆ Finset.univ \ (Finset.Ico a n).biUnion S := fun x hx => by
  rw [Finset.mem_sdiff, Finset.mem_biUnion]
  refine ⟨Finset.mem_univ _, ?_⟩
  rintro ⟨j, hj, hxj⟩
  rw [Finset.mem_Ico] at hj
  exact Finset.disjoint_left.mp (h j hj.1 hj.2) hxj hx

theorem away_take {ℓ : Loc nD τ sig} (S : ℕ → Finset (Idx ℓ)) (a n : ℕ) (hn : a ≤ n) :
    (Finset.univ \ (Finset.Ico a n).biUnion S) \ S n = Finset.univ \ (Finset.Ico a (n + 1)).biUnion S := by
  rw [Ico_last hn, Finset.biUnion_insert, Finset.union_comm, sdiff_sdiff_left, Finset.sup_eq_union]

theorem away_put {ℓ : Loc nD τ sig} (S : ℕ → Finset (Idx ℓ)) (a n : ℕ) (hn : a < n) (h : ∀ j, a < j → j < n → Disjoint (S a) (S j)) :
    S a ⊆ Finset.univ \ (Finset.Ico (a + 1) n).biUnion S
      ∧ (Finset.univ \ (Finset.Ico (a + 1) n).biUnion S) \ S a = Finset.univ \ (Finset.Ico a n).biUnion S := by
  constructor
  · intro x hx
    rw [Finset.mem_sdiff, Finset.mem_biUnion]
    refine ⟨Finset.mem_univ _, ?_⟩
    rintro ⟨j, hj, hxj⟩
    rw [Finset.mem_Ico] at hj
    exact Finset.disjoint_left.mp (h j (by omega) hj.2) hx hxj
  · rw [Ico_head hn, Finset.biUnion_insert, Finset.union_comm, sdiff_sdiff_left, Finset.sup_eq_union]

theorem ring_take {ℓ : Loc nD τ sig} (S : ℕ → Finset (Idx ℓ)) (a n : ℕ) (hn : a ≤ n) (h : ∀ j, a ≤ j → j < n → Disjoint (S j) (S n)) :
    (Ring ℓ S a n : sProp 𝕄) ⊢ iprop((∃ f : Buf (Elt F) ℓ, ℓ ↦[S n]{fullShare} f) ∗ Ring ℓ S a (n + 1)) := by
  unfold Ring
  iintro ⟨%f, H⟩
  ihave H := (pointsTo_split_subset (away_sub S a n h)).1 $$ H
  rw [away_take S a n hn]
  icases H with ⟨H, HR⟩
  isplitl [H]; · iexists f; iexact H
  iexists f; iexact HR

theorem ring_put {ℓ : Loc nD τ sig} (S : ℕ → Finset (Idx ℓ)) (a n : ℕ) (hn : a < n) (h : ∀ j, a < j → j < n → Disjoint (S a) (S j)) :
    iprop((∃ f : Buf (Elt F) ℓ, ℓ ↦[S a]{fullShare} f) ∗ Ring ℓ S a n) ⊢ (Ring ℓ S (a + 1) n : sProp 𝕄) := by
  unfold Ring
  iintro ⟨⟨%g, H⟩, %f, HR⟩
  iexists _
  iapply (pointsTo_join_subset (away_put S a n hn h).1)
  isplitl [H]; · iexact H
  rw [(away_put S a n hn h).2]
  iexact HR

/-- Nothing away: the buffer whole. -/
theorem ring_whole {ℓ : Loc nD τ sig} (S : ℕ → Finset (Idx ℓ)) (a : ℕ) :
    (Ring ℓ S a a : sProp 𝕄) = iprop(∃ f : Buf (Elt F) ℓ, ℓ ↦{fullShare} f) := by
  unfold Ring; rw [Finset.Ico_self, Finset.biUnion_empty, Finset.sdiff_empty]

/-- Every piece lent out, and every piece back. -/
theorem ring_lend {ℓ : Loc nD τ sig} (S : ℕ → Finset (Idx ℓ)) (n : ℕ) (h : ∀ i < n, ∀ j < n, i ≠ j → Disjoint (S i) (S j)) :
    (Ring ℓ S 0 0 : sProp 𝕄) ⊢ iprop((bigSep (Finset.Ico 0 n) fun i => iprop(∃ f : Buf (Elt F) ℓ, ℓ ↦[S i]{fullShare} f)) ∗ Ring ℓ S 0 n) := by
  induction n with
  | zero =>
    iintro H
    rw [Finset.Ico_self, bigSep_empty]
    isplitr; · iempintro
    iexact H
  | succ n ih =>
    iintro H
    ihave H := (ih (fun i hi j hj => h i (by omega) j (by omega))) $$ H
    icases H with ⟨HB, HR⟩
    ihave H := (ring_take S 0 n (Nat.zero_le _) (fun j _ hj => h j (by omega) n (by omega) (by omega))) $$ HR
    icases H with ⟨Hn, HR⟩
    rw [bigSep_Ico_succ_top (Nat.zero_le n)]
    isplitr [HR]
    · isplitl [Hn]; · iexact Hn
      iexact HB
    · iexact HR

/-! ## Waiting, copying, sending -/

/-- What a device owes, its waits not named. -/
def Owes (d : Dev nD) (a b : ℕ) : sProp 𝕄 := iprop(∃ W, owes (d : Thread nD τ) (owe d a b) W)

section Rules

variable {Q : PUnit.{1} → sProp (MT nD τ sig Unit (Elt F) ℕ UU ℕ)} {sp sp' : Space} {s s' : Shape} {e e' : EltTy}

/-- Waiting for segment `a` of a kind. -/
theorem wait_own (K : GSem nD τ sig → ℕ) (f : Fam) (d : Dev nD) (a b na nb : ℕ) (hab : a < b) (ha : a < 18)
    (hla : f.lvl a < 2 * na + 2) (hlb : f.lvl a < 2 * nb + 3)
    {sem : DmaSem sig} {src : Memref sig .tc sp' s' e'} {dst : Memref sig .tc sp s e} {hsrc : src.view.WordExact} {hdst : dst.view.WordExact}
    {k : PUnit → KP F PUnit} (hs : sem = f.sem a) (hc : dst.view.dmaCredit = f.amt a) :
    iprop(ctx P Gm K ∗ Own f d a b ∗ Owes d na nb)
      ⊢ iprop(((Own f d (a + 1) b ∗ pay P Gm f d a ∗ Owes d na nb) -∗ wp frame (wpE (defs₀ (F := F)) 𝒱₀ (d : Thread nD τ) none) Set.univ (k ⟨⟩) Q)
        -∗ wp frame (wpE (defs₀ (F := F)) 𝒱₀ (d : Thread nD τ) none) Set.univ (.op (.waitDma2 sem src dst hsrc hdst) k) Q) := by
  subst hs
  unfold Owes ctx
  iintro ⟨⟨#HI, #Hlev⟩, HOwn, %W, HO⟩ Hk
  ihave H := (own_wait f d a b hab) $$ HOwn
  icases H with ⟨Hc, Hp, HOwn⟩
  iapply (Rounds.wp_wait_rest_token 𝒱₀ ER (talkRd P Gm) (d : Thread nD τ) none (κ := K (cell d f a)) (sm := .dma (f.sem a)) (k' := f.amt a)
      (fun Kk => (wpE_waitDma2_eq 𝒱₀ (d : Thread nD τ) none Set.univ Kk).trans (by rw [hc])) (Set.mem_univ _) () (O := owe d na nb) (W := W)
      (R := a / f.w) (m := 0) (T := ∅) ((Nat.zero_add _).trans (expect_cell P Gm d f a ha).symm)) $$ [Hc HO Hp]
  · isplitr; · iapply (inv_cell P Gm K d f a); iexact HI
    isplitl [Hc]; · iexact Hc
    isplitl [HO]; · iexact HO
    isplitr
    · iapply (mayWait d (.dma (f.sem a)) na nb (f.lvl a) (le_of_eq (lv_cell d f a ha)) hla hlb); iexact Hlev
    iexact Hp
  iintro ⟨HO, Hp, Hr, Hpay⟩
  ihave Hpay := (Entails.of_eq (rest_cell P Gm d f a ha)) $$ Hpay
  iapply Hk
  isplitl [HOwn Hp Hr]
  · iapply HOwn
    isplitl [Hp]; · iexact Hp
    iexact Hr
  isplitl [Hpay]; · iexact Hpay
  iexists _; iexact HO

/-- Starting a copy of segment `b` on the device itself. -/
theorem copy_own (K : GSem nD τ sig → ℕ) (f : Fam) (d : Dev nD) (a b : ℕ) (hab : a ≤ b) (hb : b < 18) (hw : b < a + f.w)
    {sem : DmaSem sig} {src : Memref sig .tc sp s e} {dst : Memref sig .tc sp' s e} {hsrc : src.view.WordExact} {hdst : dst.view.WordExact}
    {hsem : DmaTarget.Typed (nD := nD) (τ := τ) (p := .tc) sp (.dma sem) (.here dst)} {k : PUnit → KP F PUnit}
    (hs : sem = f.sem b) (hc : dst.view.dmaCredit = f.amt b)
    (fs : Buf (Elt F) (src.view.loc (d : Thread nD τ))) (fd : Buf (Elt F) (dst.view.loc (d : Thread nD τ)))
    (hpay : iprop(pts d dst (dst.view.write (Elt F) fd (src.view.read (Elt F) fs) Finset.univ) ∗ pts d src fs) ⊢ pay P Gm f d b) :
    iprop(ctx P Gm K ∗ Own f d a b ∗ pts d src fs ∗ pts d dst fd)
      ⊢ iprop((Own f d a (b + 1) -∗ wp frame (wpE (defs₀ (F := F)) 𝒱₀ (d : Thread nD τ) none) Set.univ (k ⟨⟩) Q)
        -∗ wp frame (wpE (defs₀ (F := F)) 𝒱₀ (d : Thread nD τ) none) Set.univ (.op (.enqueueDma src (.here dst) (.dma sem) hsrc hdst hsem) k) Q) := by
  subst hs
  unfold ctx
  iintro ⟨⟨#HI, -⟩, HOwn, Hs, Hd⟩ Hk
  ihave H := (own_start f d a b hab hb hw) $$ HOwn
  icases H with ⟨Ht, Hr, HOwn⟩
  iapply (Rounds.wp_copy_pointsTo 𝒱₀ ER (talkRd P Gm) (d : Thread nD τ) none (src := src) (dst := dst) (sem := .dma (f.sem b)) (q := fullShare)
      (fs := fs) (fd := fd) (r := b / f.w) (d := true) (κ := K (cell d f b))
      (by rw [duties_cell P Gm d f b hb]; exact Finset.mem_singleton_self _) () (f.amt b) hc (amount_cell P Gm d f b true)
      (by rw [payload_cell]; exact hpay)) $$ [Hs Hd Ht Hr]
  · isplitr; · iapply (inv_cell P Gm K d f b); iexact HI
    isplitl [Hs]; · iexact Hs
    isplitl [Hd]; · iexact Hd
    isplitl [Ht]; · iexact Ht
    iexact Hr
  iintro Hc
  iapply Hk
  iapply HOwn
  iexact Hc

/-- Sending segment `b` to another device: the send is of kind `f`, the landing of kind `f'`. -/
theorem send_own (K : GSem nD τ sig → ℕ) (f f' : Fam) (d d' : Dev nD) (a b na nb na' nb' : ℕ) (hab : a ≤ b) (hb : b < 18) (hw : b < a + f.w)
    {sS sR : DmaSem sig} {src : Memref sig .tc sp s e} {dst : Memref sig .tc sp' s e} {hsc : dst.view.ref.isScScratch = false}
    {hsrc : src.view.WordExact} {hdst : dst.view.WordExact}
    {hsem : DmaTarget.Typed (p := .tc) sp (.dma sR) (.remote (Dev.tc d' : Thread nD τ) dst (.dma sS) hsc)} {k : PUnit → KP F PUnit}
    (hs : sS = f.sem b) (hs' : sR = f'.sem b) (hc : dst.view.dmaCredit = f.amt b) (hc' : f'.amt b = f.amt b)
    (ho : owe d na nb = owe d na' nb' + tallyAt (cell d' f' b) () (f'.amt b))
    (fs : Buf (Elt F) (src.view.loc (d : Thread nD τ)))
    (hpay : pts d src fs ⊢ pay P Gm f d b)
    (hpay' : ∀ fd, pts d' dst (dst.view.write (Elt F) fd (src.view.read (Elt F) fs) Finset.univ) ⊢ pay P Gm f' d' b) :
    iprop(ctx P Gm K ∗ Own f d a b ∗ pts d src fs ∗ any d' dst ∗ Owes d na nb
        ∗ dutyTok ER (cell d' f' b) (b / f'.w) true ∗ reached ER (cell d' f' b) (b / f'.w))
      ⊢ iprop(((Own f d a (b + 1) ∗ Owes d na' nb') -∗ wp frame (wpE (defs₀ (F := F)) 𝒱₀ (d : Thread nD τ) none) Set.univ (k ⟨⟩) Q)
        -∗ wp frame (wpE (defs₀ (F := F)) 𝒱₀ (d : Thread nD τ) none) Set.univ
          (.op (.enqueueDma src (.remote (Dev.tc d' : Thread nD τ) dst (.dma sS) hsc) (.dma sR) hsrc hdst hsem) k) Q) := by
  subst hs hs'
  unfold ctx Owes any
  iintro ⟨⟨#HI, -⟩, HOwn, Hs, ⟨%fd, Hd⟩, ⟨%W, HO⟩, Ht', Hr'⟩ Hk
  ihave H := (own_start f d a b hab hb hw) $$ HOwn
  icases H with ⟨Ht, Hr, HOwn⟩
  iapply (Rounds.wp_send_pointsTo 𝒱₀ ER (talkRd P Gm) (d : Thread nD τ) none (c' := (d' : Thread nD τ)) (src := src) (dst := dst)
      (sS := .dma (f.sem b)) (sem := .dma (f'.sem b)) (q := fullShare) (fs := fs) (fd := fd) (r₁ := b / f.w) (r₂ := b / f'.w) (d₁ := true) (d₂ := true)
      (κ₁ := K (cell d f b)) (κ₂ := K (cell d' f' b))
      (by rw [duties_cell P Gm d f b hb]; exact Finset.mem_singleton_self _)
      (by rw [duties_cell P Gm d' f' b hb]; exact Finset.mem_singleton_self _)
      () () (f.amt b) hc (amount_cell P Gm d f b true) ((amount_cell P Gm d' f' b true).trans hc') (owe d na' nb') (ho.trans (by rw [hc'])) (W := W)
      (by rw [payload_cell]; exact hpay) (by rw [payload_cell]; exact hpay' fd)) $$ [Hs Hd HO Ht Hr Ht' Hr']
  · isplitr; · iapply (inv_cell P Gm K d f b); iexact HI
    isplitr; · iapply (inv_cell P Gm K d' f' b); iexact HI
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [HOwn Hc]
  · iapply HOwn; iexact Hc
  iexists W; iexact HO

end Rules

end Cert.KernelIdeal.Run
-- ==== Proof.Slots.lean ====
/- Reading and writing one segment's slot or rows, and which slots and rows have nothing in common. -/
module

public import proofs.«01_k».proof.Proof.Moves

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The weakest precondition of a program of device `d`. -/
abbrev WP (d : Dev nD) (p : KP F PUnit) (Q : PUnit.{1} → sProp (MT nD τ sig Unit (Elt F) ℕ UU ℕ)) : sProp (MT nD τ sig Unit (Elt F) ℕ UU ℕ) :=
  wp frame (wpE (defs₀ (F := F)) 𝒱₀ (d : Thread nD τ) none) Set.univ p Q

section Access

variable {Q : PUnit.{1} → sProp (MT nD τ sig Unit (Elt F) ℕ UU ℕ)} {cs : CoreSpace} {s : Shape} {e : EltTy}

/-- Loading rows whose contents are known. -/
theorem load_rows (d : Dev nD) (m : Memref sig .tc cs s e) (r : Rect s) (hu : ∀ a, r.stride a = 1) (v : r.shape.Idx → Elt F e)
    {hl : m.view.LoadsAt r} {k : (r.shape.Idx → Elt F e) → KP F PUnit} :
    has d (m.slice r hu) v ⊢ iprop((has d (m.slice r hu) v -∗ WP d (k v) Q) -∗ WP d (.op (.load m r hl) k) Q) := by
  unfold has
  iintro ⟨%f, %hf, H⟩ Hk
  subst hf
  iapply (wp_load_rect 𝒱₀ (d : Thread nD τ) none Set.univ (m := m) (r := r) (S := (m.slice r hu).view.set) (f := f) (fun x hx => hx)) $$ H
  iintro H
  iapply Hk
  iexists f
  isplitr; · ipureintro; rfl
  iexact H

/-- Loading a slot whose contents are known. -/
theorem load_slot (d : Dev nD) (m : Memref sig .tc cs s e) (r : Rect s) (hu : ∀ a, r.stride a = 1) {s2 : Shape} (hq : r.shape.Squeezes s2)
    (v : r.shape.Idx → Elt F e) {hl : m.view.LoadsAt r} {k : (r.shape.Idx → Elt F e) → KP F PUnit} :
    has d ((m.slice r hu).squeeze s2 hq) (fun x => v (Shape.reshapeEquiv hq.numel_eq x))
      ⊢ iprop((has d ((m.slice r hu).squeeze s2 hq) (fun x => v (Shape.reshapeEquiv hq.numel_eq x)) -∗ WP d (k v) Q)
        -∗ WP d (.op (.load m r hl) k) Q) := by
  unfold has
  iintro ⟨%f, %hf, H⟩ Hk
  have hv : (m.access r).read (Elt F) f = v := by
    funext y
    have := congrFun hf ((Shape.reshapeEquiv hq.numel_eq).symm y)
    rw [Equiv.apply_symm_apply] at this
    rw [← this]
    show (m.access r).read (Elt F) f y = (m.access r).read (Elt F) f (Shape.reshapeEquiv hq.numel_eq ((Shape.reshapeEquiv hq.numel_eq).symm y))
    rw [Equiv.apply_symm_apply]
  iapply (wp_load_rect 𝒱₀ (d : Thread nD τ) none Set.univ (m := m) (r := r) (S := ((m.slice r hu).squeeze s2 hq).view.set) (f := f)
    (le_of_eq (View.set_reshape (m.access r) hq.numel_eq).symm)) $$ H
  iintro H
  rw [hv]
  iapply Hk
  iexists f
  isplitr; · ipureintro; exact hf
  iexact H

/-- Loading a slot whatever it holds, the loaded value not used. -/
theorem load_any (d : Dev nD) (m : Memref sig .tc cs s e) (r : Rect s) (hu : ∀ a, r.stride a = 1) {s2 : Shape} (hq : r.shape.Squeezes s2)
    {hl : m.view.LoadsAt r} {k : (r.shape.Idx → Elt F e) → KP F PUnit} {k' : KP F PUnit} (hk : ∀ v, k v = k') :
    any d ((m.slice r hu).squeeze s2 hq)
      ⊢ iprop((any d ((m.slice r hu).squeeze s2 hq) -∗ WP d k' Q) -∗ WP d (.op (.load m r hl) k) Q) := by
  unfold any
  iintro ⟨%f, H⟩ Hk
  iapply (wp_load_rect 𝒱₀ (d : Thread nD τ) none Set.univ (m := m) (r := r) (S := ((m.slice r hu).squeeze s2 hq).view.set) (f := f)
    (le_of_eq (View.set_reshape (m.access r) hq.numel_eq).symm)) $$ H
  iintro H
  rw [hk]
  iapply Hk
  iexists f
  iexact H

/-- Storing a whole slot. -/
theorem store_slot (d : Dev nD) (m : Memref sig .tc cs s e) (r : Rect s) (hu : ∀ a, r.stride a = 1) {s2 : Shape} (hq : r.shape.Squeezes s2)
    (w : r.shape.Idx → Elt F e) {hx : (m.access r).Stores Finset.univ}
    {hm : (Finset.univ : Finset r.shape.Idx) = Finset.univ ∨ ∀ a, r.stride a = 1} {k : PUnit → KP F PUnit} :
    any d ((m.slice r hu).squeeze s2 hq)
      ⊢ iprop((has d ((m.slice r hu).squeeze s2 hq) (fun x => w (Shape.reshapeEquiv hq.numel_eq x)) -∗ WP d (k ⟨⟩) Q)
        -∗ WP d (.op (.store m r w Finset.univ hx hm) k) Q) := by
  unfold any has
  iintro ⟨%f, H⟩ Hk
  iapply (wp_store 𝒱₀ (d : Thread nD τ) none Set.univ (m := m) (r := r) (Mk := Finset.univ) (S := ((m.slice r hu).squeeze s2 hq).view.set) (f := f)
    (le_of_eq (View.set_reshape (m.access r) hq.numel_eq).symm)) $$ H
  iintro H
  iapply Hk
  iexists _
  isplitr [H]
  · ipureintro
    swap
    · exact (m.access r).write (Elt F) f w Finset.univ
    · funext x
      show (m.access r).read (Elt F) ((m.access r).write (Elt F) f w Finset.univ) (Shape.reshapeEquiv hq.numel_eq x) = _
      rw [View.read_write_univ]
  iexact H

end Access

/-! ## Slots and rows apart -/

theorem sep_slot {n : ℕ} {e : EltTy} {sp : Space} (m : Memref sig .tc sp (⟨3, ![n, 128, 4096]⟩ : Shape) e) (a c i j : ℕ)
    (ha : ∀ x, (![a, 0, 0] : Fin 3 → ℕ) x + (S3 i).size x ≤ (⟨3, ![n, 128, 4096]⟩ : Shape).size x)
    (hc : ∀ x, (![c, 0, 0] : Fin 3 → ℕ) x + (S3 j).size x ≤ (⟨3, ![n, 128, 4096]⟩ : Shape).size x) (h : a ≠ c) :
    Disjoint ((m.slice (Rect.unit (s := (⟨3, ![n, 128, 4096]⟩ : Shape)) ![a, 0, 0] (S3 i).size ha) (fun _ => rfl)).squeeze (S2 i) (sqz i)).view.set
      ((m.slice (Rect.unit (s := (⟨3, ![n, 128, 4096]⟩ : Shape)) ![c, 0, 0] (S3 j).size hc) (fun _ => rfl)).squeeze (S2 j) (sqz j)).view.set :=
  Disjoint.mono (le_of_eq (View.set_reshape _ _)) (le_of_eq (View.set_reshape _ _))
    (View.disjoint_slice_of_sep m.view _ _ (0 : Fin 3) rfl rfl (show a + 1 ≤ c ∨ c + 1 ≤ a by omega))

theorem sep_rows {n : ℕ} {e : EltTy} {sp : Space} (v : View sig .tc sp (⟨2, ![n, 4096]⟩ : Shape) e) (oa oc : Fin 2 → ℕ) (i j : ℕ)
    (ha : ∀ x, oa x + (S2 i).size x ≤ (⟨2, ![n, 4096]⟩ : Shape).size x)
    (hc : ∀ x, oc x + (S2 j).size x ≤ (⟨2, ![n, 4096]⟩ : Shape).size x) (h : oa 0 + rows i ≤ oc 0 ∨ oc 0 + rows j ≤ oa 0) :
    Disjoint (v.slice (Rect.unit (s := (⟨2, ![n, 4096]⟩ : Shape)) oa (S2 i).size ha)).set
      (v.slice (Rect.unit (s := (⟨2, ![n, 4096]⟩ : Shape)) oc (S2 j).size hc)).set :=
  View.disjoint_slice_of_sep v _ _ (0 : Fin 2) rfl rfl h

/-- Two segments of the kernel have no row in common. -/
theorem off_sep {i j : ℕ} (hi : i < 18) (hj : j < 18) (h : i ≠ j) : off i + rows i ≤ off j ∨ off j + rows j ≤ off i :=
  (by decide : ∀ i j : Fin 18, i ≠ j → off i + rows i ≤ off j ∨ off j + rows j ≤ off i) ⟨i, hi⟩ ⟨j, hj⟩ (fun h' => h (congrArg Fin.val h'))

theorem xs_sep (i j : ℕ) (h : i % 4 ≠ j % 4) : Disjoint (xsV i).view.set (xsV j).view.set :=
  sep_slot (Memref.whole cc0_scratch2) _ _ i j (inb4 i) (inb4 j) h
theorem xr_sep (i j : ℕ) (h : i % 18 ≠ j % 18) : Disjoint (xrV i).view.set (xrV j).view.set :=
  sep_slot (Memref.whole cc0_scratch3) _ _ i j (inb18 i) (inb18 j) h
theorem rs_sep (i j : ℕ) (h : i % 2 ≠ j % 2) : Disjoint (rsV i).view.set (rsV j).view.set :=
  sep_slot (Memref.whole cc0_scratch4) _ _ i j (inb2 i) (inb2 j) h
theorem ys_sep (i j : ℕ) (h : i % 4 ≠ j % 4) : Disjoint (ysV i).view.set (ysV j).view.set :=
  sep_slot (Memref.whole cc0_scratch5) _ _ i j (inb4 i) (inb4 j) h
theorem yb_sep (i j : ℕ) (h : i % 2 ≠ j % 2) : Disjoint (ybV i).view.set (ybV j).view.set :=
  sep_slot (Memref.whole cc0_scratch7) _ _ i j (inb2 i) (inb2 j) h
theorem yg_sep (i j : ℕ) (hi : i < 18) (hj : j < 18) (h : i ≠ j) : Disjoint (ygV i).view.set (ygV j).view.set :=
  sep_rows (Memref.whole main_v3_1).view _ _ i j (inbY i) (inbY j) (off_sep hi hj h)
theorem loc_sep (d : Dev nD) (i j : ℕ) (hi : i < 18) (hj : j < 18) (h : i ≠ j) : Disjoint (locV d i).view.set (locV d j).view.set :=
  sep_rows (Memref.whole main_v1).view _ _ i j (inbo2 d i) (inbo2 d j) (by
    rw [off2_eq, off2_eq]; show locRow d i + rows i ≤ locRow d j ∨ locRow d j + rows j ≤ locRow d i
    have := off_sep hi hj h; unfold locRow; omega)
theorem out_sep (d : Dev nD) (i j : ℕ) (hi : i < 18) (hj : j < 18) (h : i ≠ j) : Disjoint (outV d i).view.set (outV d j).view.set :=
  sep_rows (Memref.whole main_v3_0).view _ _ i j (inb3 d i) (inb3 d j) (by
    rw [off3_eq, off3_eq]; show outRow d i + rows i ≤ outRow d j ∨ outRow d j + rows j ≤ outRow d i
    have := off_sep hi hj h; unfold outRow; omega)
theorem oth_sep (d : Dev nD) (i j : ℕ) (hi : i < 18) (hj : j < 18) (h : i ≠ j) : Disjoint (othV d i).view.set (othV d j).view.set :=
  sep_rows (Memref.whole main_v3_0).view _ _ i j (inb7 d i) (inb7 d j) (by
    rw [off7_eq, off7_eq]; show othRow d i + rows i ≤ othRow d j ∨ othRow d j + rows j ≤ othRow d i
    have := off_sep hi hj h; unfold othRow; omega)
/-- The device's part of the result and its peer's have no row in common. -/
theorem out_oth_sep (d : Dev nD) (i j : ℕ) : Disjoint (outV d i).view.set (othV d j).view.set :=
  sep_rows (Memref.whole main_v3_0).view _ _ i j (inb3 d i) (inb7 d j) (by
    rw [off3_eq, off7_eq]; show outRow d i + rows i ≤ othRow d j ∨ othRow d j + rows j ≤ outRow d i
    have := off_add_rows i; have := off_add_rows j; have := yc_lt d; unfold outRow othRow
    rcases (by omega : yc d = 0 ∨ yc d = 1) with h | h <;> rw [h] <;> omega)

end Cert.KernelIdeal.Run
-- ==== Proof.Steps.lean ====
/- What each step of the kernel does to what its device holds. -/
module

public import proofs.«01_k».proof.Proof.Slots

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The buffers -/

abbrev B (d : Dev nD) (b : Ref sig .tc) : Loc nD τ sig := (d : Thread nD τ).loc b

abbrev sB (d : Dev nD) (a n : ℕ) : sProp 𝕄 := Ring (B d cc0_scratch0) (fun j => (sV j).view.set) a n
abbrev lB (d : Dev nD) (a n : ℕ) : sProp 𝕄 := Ring (B d cc0_scratch1) (fun j => (lV j).view.set) a n
abbrev xsB (d : Dev nD) (a n : ℕ) : sProp 𝕄 := Ring (B d cc0_scratch2) (fun j => (xsV j).view.set) a n
abbrev xrB (d : Dev nD) (a n : ℕ) : sProp 𝕄 := Ring (B d cc0_scratch3) (fun j => (xrV j).view.set) a n
abbrev rsB (d : Dev nD) (a n : ℕ) : sProp 𝕄 := Ring (B d cc0_scratch4) (fun j => (rsV j).view.set) a n
abbrev ysB (d : Dev nD) (a n : ℕ) : sProp 𝕄 := Ring (B d cc0_scratch5) (fun j => (ysV j).view.set) a n
abbrev yiB (d : Dev nD) (a n : ℕ) : sProp 𝕄 := Ring (B d cc0_scratch6) (fun j => (yiV j).view.set) a n
abbrev ybB (d : Dev nD) (a n : ℕ) : sProp 𝕄 := Ring (B d cc0_scratch7) (fun j => (ybV j).view.set) a n
abbrev ygB (d : Dev nD) (a n : ℕ) : sProp 𝕄 := Ring (B d main_v3_1) (fun j => (ygV j).view.set) a n

theorem s_take (d : Dev nD) (n : ℕ) : (sB d n n : sProp 𝕄) ⊢ iprop(any d (sV n) ∗ sB d n (n + 1)) :=
  ring_take _ n n (le_refl n) fun j h1 h2 => absurd h1 (by omega)
theorem s_put (d : Dev nD) (n : ℕ) : iprop(any d (sV n) ∗ sB d n (n + 1)) ⊢ (sB d (n + 1) (n + 1) : sProp 𝕄) :=
  ring_put (ℓ := B d cc0_scratch0) (fun j => (sV j).view.set) n (n + 1) (by omega) fun j h1 h2 => absurd h1 (by omega)
theorem l_take (d : Dev nD) (n : ℕ) : (lB d n n : sProp 𝕄) ⊢ iprop(any d (lV n) ∗ lB d n (n + 1)) :=
  ring_take _ n n (le_refl n) fun j h1 h2 => absurd h1 (by omega)
theorem l_put (d : Dev nD) (n : ℕ) : iprop(any d (lV n) ∗ lB d n (n + 1)) ⊢ (lB d (n + 1) (n + 1) : sProp 𝕄) :=
  ring_put (ℓ := B d cc0_scratch1) (fun j => (lV j).view.set) n (n + 1) (by omega) fun j h1 h2 => absurd h1 (by omega)
theorem yi_take (d : Dev nD) (n : ℕ) : (yiB d n n : sProp 𝕄) ⊢ iprop(any d (yiV n) ∗ yiB d n (n + 1)) :=
  ring_take _ n n (le_refl n) fun j h1 h2 => absurd h1 (by omega)
theorem yi_put (d : Dev nD) (n : ℕ) : iprop(any d (yiV n) ∗ yiB d n (n + 1)) ⊢ (yiB d (n + 1) (n + 1) : sProp 𝕄) :=
  ring_put (ℓ := B d cc0_scratch6) (fun j => (yiV j).view.set) n (n + 1) (by omega) fun j h1 h2 => absurd h1 (by omega)

theorem xs_take (d : Dev nD) (a n : ℕ) (hn : a ≤ n) (hw : n < a + 4) : (xsB d a n : sProp 𝕄) ⊢ iprop(any d (xsV n) ∗ xsB d a (n + 1)) :=
  ring_take _ a n hn fun j h1 h2 => xs_sep j n (by omega)
theorem xs_put (d : Dev nD) (a n : ℕ) (hn : a < n) (hw : n ≤ a + 4) : iprop(any d (xsV a) ∗ xsB d a n) ⊢ (xsB d (a + 1) n : sProp 𝕄) :=
  ring_put (ℓ := B d cc0_scratch2) (fun j => (xsV j).view.set) a n hn fun j h1 h2 => xs_sep a j (by omega)
theorem ys_take (d : Dev nD) (a n : ℕ) (hn : a ≤ n) (hw : n < a + 4) : (ysB d a n : sProp 𝕄) ⊢ iprop(any d (ysV n) ∗ ysB d a (n + 1)) :=
  ring_take _ a n hn fun j h1 h2 => ys_sep j n (by omega)
theorem ys_put (d : Dev nD) (a n : ℕ) (hn : a < n) (hw : n ≤ a + 4) : iprop(any d (ysV a) ∗ ysB d a n) ⊢ (ysB d (a + 1) n : sProp 𝕄) :=
  ring_put (ℓ := B d cc0_scratch5) (fun j => (ysV j).view.set) a n hn fun j h1 h2 => ys_sep a j (by omega)
theorem rs_take (d : Dev nD) (a n : ℕ) (hn : a ≤ n) (hw : n < a + 2) : (rsB d a n : sProp 𝕄) ⊢ iprop(any d (rsV n) ∗ rsB d a (n + 1)) :=
  ring_take _ a n hn fun j h1 h2 => rs_sep j n (by omega)
theorem rs_put (d : Dev nD) (a n : ℕ) (hn : a < n) (hw : n ≤ a + 2) : iprop(any d (rsV a) ∗ rsB d a n) ⊢ (rsB d (a + 1) n : sProp 𝕄) :=
  ring_put (ℓ := B d cc0_scratch4) (fun j => (rsV j).view.set) a n hn fun j h1 h2 => rs_sep a j (by omega)
theorem yb_take (d : Dev nD) (a n : ℕ) (hn : a ≤ n) (hw : n < a + 2) : (ybB d a n : sProp 𝕄) ⊢ iprop(any d (ybV n) ∗ ybB d a (n + 1)) :=
  ring_take _ a n hn fun j h1 h2 => yb_sep j n (by omega)
theorem yb_put (d : Dev nD) (a n : ℕ) (hn : a < n) (hw : n ≤ a + 2) : iprop(any d (ybV a) ∗ ybB d a n) ⊢ (ybB d (a + 1) n : sProp 𝕄) :=
  ring_put (ℓ := B d cc0_scratch7) (fun j => (ybV j).view.set) a n hn fun j h1 h2 => yb_sep a j (by omega)
theorem xr_put (d : Dev nD) (a : ℕ) (ha : a < 18) : iprop(any d (xrV a) ∗ xrB d a 18) ⊢ (xrB d (a + 1) 18 : sProp 𝕄) :=
  ring_put (ℓ := B d cc0_scratch3) (fun j => (xrV j).view.set) a 18 ha fun j h1 h2 => xr_sep a j (by omega)
theorem yg_put (d : Dev nD) (a : ℕ) (ha : a < 18) : iprop(any d (ygV a) ∗ ygB d a 18) ⊢ (ygB d (a + 1) 18 : sProp 𝕄) :=
  ring_put (ℓ := B d main_v3_1) (fun j => (ygV j).view.set) a 18 ha fun j h1 h2 => yg_sep a j ha h2 (by omega)
/-- All landing slots lent, all landing rows lent. -/
theorem xr_lend (d : Dev nD) : (xrB d 0 0 : sProp 𝕄) ⊢ iprop((bigSep (Finset.Ico 0 18) fun i => any d (xrV i)) ∗ xrB d 0 18) :=
  ring_lend (ℓ := B d cc0_scratch3) (fun j => (xrV j).view.set) 18 fun i hi j hj h => xr_sep i j (by omega)
theorem yg_lend (d : Dev nD) : (ygB d 0 0 : sProp 𝕄) ⊢ iprop((bigSep (Finset.Ico 0 18) fun i => any d (ygV i)) ∗ ygB d 0 18) :=
  ring_lend (ℓ := B d main_v3_1) (fun j => (ygV j).view.set) 18 fun i hi j hj h => yg_sep i j hi hj h

variable (P : Dev nD → main_v1.ty.Contents (Elt F)) (Gm : Dev nD → cc0_stg0_0.ty.Contents (Elt F))

/-- The partial sums, at their contents, the device's own rows of segments `a` to `n` away. -/
def Src (d : Dev nD) (a n : ℕ) : sProp 𝕄 :=
  B d main_v1 ↦[Finset.univ \ (Finset.Ico a n).biUnion fun j => (locV d j).view.set]{fullShare} P d

theorem src_loc_take (d : Dev nD) (n : ℕ) : Src P d n n ⊢ iprop(pts d (locV d n) (P d) ∗ Src P d n (n + 1)) := by
  unfold Src
  have h1 := away_sub (ℓ := B d main_v1) (fun j => (locV d j).view.set) n n fun j h1 h2 => absurd h1 (by omega)
  have h2 := away_take (ℓ := B d main_v1) (fun j => (locV d j).view.set) n n (le_refl n)
  rw [← h2]
  exact (pointsTo_split_subset h1).1
theorem src_loc_put (d : Dev nD) (n : ℕ) : iprop(pts d (locV d n) (P d) ∗ Src P d n (n + 1)) ⊢ Src P d (n + 1) (n + 1) := by
  unfold Src
  have h := away_put (ℓ := B d main_v1) (fun j => (locV d j).view.set) n (n + 1) (by omega) fun j h1 h2 => absurd h1 (by omega)
  rw [← h.2]
  exact (pointsTo_split_subset h.1).2
theorem src_src (d : Dev nD) (i n : ℕ) : Src P d n n ⊢ iprop(pts d (srcV d i) (P d) ∗ (pts d (srcV d i) (P d) -∗ Src P d n n)) := by
  unfold Src
  rw [Finset.Ico_self, Finset.biUnion_empty, Finset.sdiff_empty]
  have h := pointsTo_split_subset (U := UU) (Ix := Unit) (Name := ℕ) (Lvl := ℕ) (ℓ := B d main_v1) (q := fullShare) (f := P d) (Finset.subset_univ (srcV d i).view.set)
  iintro H
  ihave H := h.1 $$ H
  icases H with ⟨H, HR⟩
  isplitl [H]; · iexact H
  iintro H
  iapply h.2
  isplitl [H]; · iexact H
  iexact HR

/-- Rows just written read what was written. -/
theorem write_has {sp sp' : Space} {s : Shape} {e : EltTy} (d d' : Dev nD) (V : Memref sig .tc sp s e) (V' : Memref sig .tc sp' s e)
    (fs : Buf (Elt F) (V'.view.loc (d' : Thread nD τ))) (fd : Buf (Elt F) (V.view.loc (d : Thread nD τ))) (v : s.Idx → Elt F e)
    (h : V'.view.read (Elt F) fs = v) :
    pts d V (V.view.write (Elt F) fd (V'.view.read (Elt F) fs) Finset.univ) ⊢ (has d V v : sProp 𝕄) := by
  unfold has
  iintro H
  iexists _
  isplitr [H]
  · ipureintro
    swap
    · exact V.view.write (Elt F) fd (V'.view.read (Elt F) fs) Finset.univ
    · rw [View.read_write_univ, h]
  iexact H

theorem pts_any {sp : Space} {s : Shape} {e : EltTy} (d : Dev nD) (V : Memref sig .tc sp s e) (f : Buf (Elt F) (V.view.loc (d : Thread nD τ))) :
    pts d V f ⊢ (any d V : sProp 𝕄) := by
  unfold any
  iintro H
  iexists f
  iexact H

/-! ## What is still to come from, or to go to, the peers -/

/-- The peer's landing slots for segments from `n` on, each with its token. -/
def Xt (d : Dev nD) (n : ℕ) : sProp 𝕄 :=
  bigSep (Finset.Ico n 18) fun i => iprop(dutyTok ER (cell (px d) .xr i) (i / Fam.xr.w) true ∗ reached ER (cell (px d) .xr i) (i / Fam.xr.w) ∗ any (px d) (xrV i))
/-- The peer's landing rows for segments from `n` on, each with its token. -/
def Yt (d : Dev nD) (n : ℕ) : sProp 𝕄 :=
  bigSep (Finset.Ico n 18) fun i => iprop(dutyTok ER (cell (py d) .yr i) (i / Fam.yr.w) true ∗ reached ER (cell (py d) .yr i) (i / Fam.yr.w) ∗ any (py d) (ygV i))
/-- Landed rows not yet taken in. -/
def Landed (d : Dev nD) (a n : ℕ) : sProp 𝕄 := bigSep (Finset.Ico a n) fun i => has d (ygV i) (yl P Gm d i)
/-- The device's part of the result: rows to write, rows written. -/
def OutT (d : Dev nD) (n : ℕ) : sProp 𝕄 := bigSep (Finset.Ico n 18) fun i => any d (outV d i)
def OutD (d : Dev nD) (n : ℕ) : sProp 𝕄 := bigSep (Finset.Ico 0 n) fun i => has d (outV d i) (ov P Gm d i)
/-- The peer's part of the result: rows to write, rows written. -/
def OthT (d : Dev nD) (n : ℕ) : sProp 𝕄 := bigSep (Finset.Ico n 18) fun i => any d (othV d i)
def OthD (d : Dev nD) (n : ℕ) : sProp 𝕄 := bigSep (Finset.Ico 0 n) fun i => has d (othV d i) (wv P Gm d i)
/-- Gamma, staged. -/
def Gam (d : Dev nD) : sProp 𝕄 := B d cc0_stg0_0 ↦{fullShare} Gm d

/-- What a transfer of one segment credits, by the buffer it lands in. -/
theorem cr_s (i : ℕ) : (sV i).view.dmaCredit = Fam.cp0.amt i := rfl
theorem cr_l (i : ℕ) : (lV i).view.dmaCredit = Fam.cp1.amt i := rfl
theorem cr_xs (i : ℕ) : (xsV i).view.dmaCredit = Fam.xs.amt i := rfl
theorem cr_xr (i : ℕ) : (xrV i).view.dmaCredit = Fam.xr.amt i := rfl
theorem cr_ys (i : ℕ) : (ysV i).view.dmaCredit = Fam.ys.amt i := rfl
theorem cr_yg (i : ℕ) : (ygV i).view.dmaCredit = Fam.yr.amt i := rfl
theorem cr_out (d : Dev nD) (i : ℕ) : (outV d i).view.dmaCredit = Fam.co.amt i := rfl
theorem cr_yi (i : ℕ) : (yiV i).view.dmaCredit = Fam.ci.amt i := rfl
theorem cr_oth (d : Dev nD) (i : ℕ) : (othV d i).view.dmaCredit = Fam.cy.amt i := rfl

/-! ## The steps -/

variable {Q : PUnit.{1} → sProp (MT nD τ sig Unit (Elt F) ℕ UU ℕ)} {k : PUnit.{1} → KP F PUnit}

theorem issue_run (K : GSem nD τ sig → ℕ) (d : Dev nD) (wx ni nx : ℕ) (h1 : ni < 18) (h2 : wx ≤ ni) (h3 : ni < wx + 4) :
    iprop(ctx P Gm K ∗ (Own .cp0 d ni ni ∗ sB d ni ni) ∗ (Own .xs d wx ni ∗ xsB d wx ni) ∗ Src P d nx nx ∗ Xt d ni ∗ Owes d ni nx)
      ⊢ iprop((((Own .cp0 d (ni + 1) (ni + 1) ∗ sB d (ni + 1) (ni + 1)) ∗ (Own .xs d wx (ni + 1) ∗ xsB d wx (ni + 1)) ∗ Src P d nx nx
          ∗ Xt d (ni + 1) ∗ Owes d (ni + 1) nx) -∗ WP d (k ⟨⟩) Q) -∗ WP d (issue d ni >>= k) Q) := by
  unfold issue
  simp only [Prog.lift, Prog.bind_op, Prog.bind_ret, Prog.pure_eq_ret]
  iintro ⟨#Hctx, ⟨Hcp, HsB⟩, ⟨Hxs, HxsB⟩, Hsrc, HXt, HO⟩ Hk
  ihave H := (s_take d ni) $$ HsB
  icases H with ⟨Hs, HsB⟩
  ihave Hs := (show any d (sV ni) ⊢ (iprop(∃ g, pts d (sV ni) g) : sProp 𝕄) from Entails.refl _) $$ Hs
  icases Hs with ⟨%fd, Hs⟩
  ihave H := (src_src P d ni nx) $$ Hsrc
  icases H with ⟨Hp, Hsrc⟩
  iapply (copy_own P Gm K .cp0 d ni ni (le_refl _) h1 (by simp only [Fam.w]; omega) (src := srcV d ni) (dst := sV ni) (sem_cp0 ni) (cr_s ni) (P d) fd
    (show _ ⊢ iprop(has d (sV ni) ((srcV d ni).view.read (Elt F) (P d)) ∗ pts d (srcV d ni) (P d)) from sep_mono_left (write_has d d _ _ _ _ _ rfl))) $$ [Hcp Hp Hs]
  · isplitr; · iexact Hctx
    isplitl [Hcp]; · iexact Hcp
    isplitl [Hp]; · iexact Hp
    iexact Hs
  iintro Hcp
  iapply (wait_own P Gm K .cp0 d ni (ni + 1) ni nx (by omega) h1 (by simp only [Fam.lvl]; omega) (by simp only [Fam.lvl]; omega) (src := srcV d ni) (dst := sV ni) (sem_cp0 ni) (cr_s ni)) $$ [Hcp HO]
  · isplitr; · iexact Hctx
    isplitl [Hcp]; · iexact Hcp
    iexact HO
  iintro ⟨Hcp, Hpay, HO⟩
  ihave H := (show pay P Gm .cp0 d ni ⊢ iprop(has d (sV ni) ((srcV d ni).view.read (Elt F) (P d)) ∗ pts d (srcV d ni) (P d)) from Entails.refl _) $$ Hpay
  icases H with ⟨Hs, Hp⟩
  iapply (load_rows d (Memref.whole cc0_scratch0) (rectL ni) (fun _ => rfl) ((srcV d ni).view.read (Elt F) (P d))) $$ Hs
  iintro Hs
  ihave H := (xs_take d wx ni h2 h3) $$ HxsB
  icases H with ⟨Hx, HxsB⟩
  iapply (load_any d (Memref.whole cc0_scratch2) (rect4 ni) (fun _ => rfl) (sqz ni) (fun _ => rfl)) $$ Hx
  iintro Hx
  iapply (store_slot d (Memref.whole cc0_scratch2) (rect4 ni) (fun _ => rfl) (sqz ni) (xv P d ni)) $$ Hx
  iintro Hx
  ihave Hx := (show has d (xsV ni) (fun x => xv P d ni (sq ni x)) ⊢ (iprop(∃ g, ⌜(xsV ni).view.read (Elt F) g = fun x => xv P d ni (sq ni x)⌝ ∗ pts d (xsV ni) g) : sProp 𝕄) from Entails.refl _) $$ Hx
  icases Hx with ⟨%fs, %hfs, Hx⟩
  ihave H := (show Xt d ni ⊢ (iprop((dutyTok ER (cell (px d) .xr ni) (ni / Fam.xr.w) true ∗ reached ER (cell (px d) .xr ni) (ni / Fam.xr.w) ∗ any (px d) (xrV ni)) ∗ Xt d (ni + 1)) : sProp 𝕄)
    from Entails.of_eq (bigSep_Ico_succ_bot h1 _)) $$ HXt
  icases H with ⟨⟨Ht, Hr, Hd⟩, HXt⟩
  iapply (send_own P Gm K .xs .xr d (px d) wx ni ni nx (ni + 1) nx h2 h1 h3 (src := xsV ni) (dst := xrV ni) (sem_xs ni) (sem_xr ni) (cr_xr ni) rfl (owe_x d ni nx h1) fs
    (show _ ⊢ any d (xsV ni) from pts_any d (xsV ni) fs)
    (fun fd => show _ ⊢ has (px d) (xrV ni) (xl P (px d) ni) from write_has (px d) d _ _ _ _ _ (by rw [hfs]; unfold xl; rw [px_px]))) $$ [Hxs Hx Hd HO Ht Hr]
  · isplitr; · iexact Hctx
    isplitl [Hxs]; · iexact Hxs
    isplitl [Hx]; · iexact Hx
    isplitl [Hd]; · iexact Hd
    isplitl [HO]; · iexact HO
    isplitl [Ht]; · iexact Ht
    iexact Hr
  iintro ⟨Hxs, HO⟩
  iapply Hk
  isplitl [Hcp Hs HsB]
  · isplitl [Hcp]; · iexact Hcp
    iapply (s_put d ni)
    isplitl [Hs]; · iapply (has_any d (sV ni) _); iexact Hs
    iexact HsB
  isplitl [Hxs HxsB]
  · isplitl [Hxs]; · iexact Hxs
    iexact HxsB
  isplitl [Hsrc Hp]; · iapply Hsrc; iexact Hp
  isplitl [HXt]; · iexact HXt
  iexact HO

end Cert.KernelIdeal.Run
-- ==== Proof.Turns.lean ====
/- The other steps of the kernel: the waits, the reduction of a segment and the taking in of the peer's. -/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → main_v1.ty.Contents (Elt F)) (Gm : Dev nD → cc0_stg0_0.ty.Contents (Elt F))
variable {Q : PUnit.{1} → sProp (MT nD τ sig Unit (Elt F) ℕ UU ℕ)} {k : PUnit.{1} → KP F PUnit}

/-! ## Naming what is held -/

theorem any_elim {sp : Space} {s : Shape} {e : EltTy} (d : Dev nD) (V : Memref sig .tc sp s e) :
    any d V ⊢ (iprop(∃ g, pts d V g) : sProp 𝕄) := Entails.refl _
theorem has_elim {sp : Space} {s : Shape} {e : EltTy} (d : Dev nD) (V : Memref sig .tc sp s e) (v : s.Idx → Elt F e) :
    has d V v ⊢ (iprop(∃ g, ⌜V.view.read (Elt F) g = v⌝ ∗ pts d V g) : sProp 𝕄) := Entails.refl _

theorem pay_xs (d : Dev nD) (i : ℕ) : pay P Gm .xs d i ⊢ any d (xsV i) := Entails.refl _
theorem pay_xr (d : Dev nD) (i : ℕ) : pay P Gm .xr d i ⊢ has d (xrV i) (xl P d i) := Entails.refl _
theorem pay_ys (d : Dev nD) (i : ℕ) : pay P Gm .ys d i ⊢ any d (ysV i) := Entails.refl _
theorem pay_yr (d : Dev nD) (i : ℕ) : pay P Gm .yr d i ⊢ has d (ygV i) (yl P Gm d i) := Entails.refl _
theorem pay_cp1 (d : Dev nD) (i : ℕ) :
    pay P Gm .cp1 d i ⊢ iprop(has d (lV i) ((locV d i).view.read (Elt F) (P d)) ∗ pts d (locV d i) (P d)) := Entails.refl _
theorem pay_co (d : Dev nD) (i : ℕ) : pay P Gm .co d i ⊢ iprop(has d (outV d i) (ov P Gm d i) ∗ any d (rsV i)) := Entails.refl _
theorem pay_ci (d : Dev nD) (i : ℕ) : pay P Gm .ci d i ⊢ iprop(has d (yiV i) (yl P Gm d i) ∗ any d (ygV i)) := Entails.refl _
theorem pay_cy (d : Dev nD) (i : ℕ) : pay P Gm .cy d i ⊢ iprop(has d (othV d i) (wv P Gm d i) ∗ any d (ybV i)) := Entails.refl _

/-! ## The waits -/

theorem waitXs_run (K : GSem nD τ sig → ℕ) (d : Dev nD) (wx ni na nb : ℕ) (h1 : wx < ni) (h2 : ni ≤ 18) (h3 : ni ≤ wx + 4) :
    iprop(ctx P Gm K ∗ (Own .xs d wx ni ∗ xsB d wx ni) ∗ Owes d na nb)
      ⊢ iprop((((Own .xs d (wx + 1) ni ∗ xsB d (wx + 1) ni) ∗ Owes d na nb) -∗ WP d (k ⟨⟩) Q) -∗ WP d (waitXs wx >>= k) Q) := by
  unfold waitXs
  simp only [Prog.lift, Prog.bind_op, Prog.bind_ret, Prog.pure_eq_ret]
  iintro ⟨#Hctx, ⟨Hw, HB⟩, HO⟩ Hk
  iapply (wait_own P Gm K .xs d wx ni na nb h1 (by omega) (by simp only [Fam.lvl]; omega) (by simp only [Fam.lvl]; omega)
    (src := xrV wx) (dst := xsV wx) (sem_xs wx) (cr_xs wx)) $$ [Hw HO]
  · isplitr; · iexact Hctx
    isplitl [Hw]; · iexact Hw
    iexact HO
  iintro ⟨Hw, Hpay, HO⟩
  ihave Hx := (pay_xs P Gm d wx) $$ Hpay
  iapply Hk
  isplitl [Hw Hx HB]
  · isplitl [Hw]; · iexact Hw
    iapply (xs_put d wx ni h1 h3)
    isplitl [Hx]; · iexact Hx
    iexact HB
  iexact HO

theorem waitYs_run (K : GSem nD τ sig → ℕ) (d : Dev nD) (wy nx na nb : ℕ) (h1 : wy < nx) (h2 : nx ≤ 18) (h3 : nx ≤ wy + 4) :
    iprop(ctx P Gm K ∗ (Own .ys d wy nx ∗ ysB d wy nx) ∗ Owes d na nb)
      ⊢ iprop((((Own .ys d (wy + 1) nx ∗ ysB d (wy + 1) nx) ∗ Owes d na nb) -∗ WP d (k ⟨⟩) Q) -∗ WP d (waitYs wy >>= k) Q) := by
  unfold waitYs
  simp only [Prog.lift, Prog.bind_op, Prog.bind_ret, Prog.pure_eq_ret]
  iintro ⟨#Hctx, ⟨Hw, HB⟩, HO⟩ Hk
  iapply (wait_own P Gm K .ys d wy nx na nb h1 (by omega) (by simp only [Fam.lvl]; omega) (by simp only [Fam.lvl]; omega)
    (src := ygV wy) (dst := ysV wy) (sem_ys wy) (cr_ys wy)) $$ [Hw HO]
  · isplitr; · iexact Hctx
    isplitl [Hw]; · iexact Hw
    iexact HO
  iintro ⟨Hw, Hpay, HO⟩
  ihave Hx := (pay_ys P Gm d wy) $$ Hpay
  iapply Hk
  isplitl [Hw Hx HB]
  · isplitl [Hw]; · iexact Hw
    iapply (ys_put d wy nx h1 h3)
    isplitl [Hx]; · iexact Hx
    iexact HB
  iexact HO

theorem outD_add (d : Dev nD) (n : ℕ) : iprop(has d (outV d n) (ov P Gm d n) ∗ OutD P Gm d n) ⊢ OutD P Gm d (n + 1) :=
  Entails.of_eq (bigSep_Ico_succ_top (Nat.zero_le n) (fun i => has d (outV d i) (ov P Gm d i))).symm
theorem othD_add (d : Dev nD) (n : ℕ) : iprop(has d (othV d n) (wv P Gm d n) ∗ OthD P Gm d n) ⊢ OthD P Gm d (n + 1) :=
  Entails.of_eq (bigSep_Ico_succ_top (Nat.zero_le n) (fun i => has d (othV d i) (wv P Gm d i))).symm

theorem waitCo_run (K : GSem nD τ sig → ℕ) (d : Dev nD) (wo nx na nb : ℕ) (h1 : wo < nx) (h2 : nx ≤ 18) (h3 : nx ≤ wo + 2) :
    iprop(ctx P Gm K ∗ (Own .co d wo nx ∗ rsB d wo nx ∗ OutD P Gm d wo) ∗ Owes d na nb)
      ⊢ iprop((((Own .co d (wo + 1) nx ∗ rsB d (wo + 1) nx ∗ OutD P Gm d (wo + 1)) ∗ Owes d na nb) -∗ WP d (k ⟨⟩) Q) -∗ WP d (waitCo d wo >>= k) Q) := by
  unfold waitCo
  simp only [Prog.lift, Prog.bind_op, Prog.bind_ret, Prog.pure_eq_ret]
  iintro ⟨#Hctx, ⟨Hw, HB, HD⟩, HO⟩ Hk
  iapply (wait_own P Gm K .co d wo nx na nb h1 (by omega) (by simp only [Fam.lvl]; omega) (by simp only [Fam.lvl]; omega)
    (src := rsV wo) (dst := outV d wo) (sem_co wo) (cr_out d wo)) $$ [Hw HO]
  · isplitr; · iexact Hctx
    isplitl [Hw]; · iexact Hw
    iexact HO
  iintro ⟨Hw, Hpay, HO⟩
  ihave H := (pay_co P Gm d wo) $$ Hpay
  icases H with ⟨Hd, Hx⟩
  iapply Hk
  isplitl [Hw Hx HB Hd HD]
  · isplitl [Hw]; · iexact Hw
    isplitl [Hx HB]
    · iapply (rs_put d wo nx h1 h3)
      isplitl [Hx]; · iexact Hx
      iexact HB
    iapply (outD_add P Gm d wo)
    isplitl [Hd]; · iexact Hd
    iexact HD
  iexact HO

theorem waitCy_run (K : GSem nD τ sig → ℕ) (d : Dev nD) (wc ny na nb : ℕ) (h1 : wc < ny) (h2 : ny ≤ 18) (h3 : ny ≤ wc + 2) :
    iprop(ctx P Gm K ∗ (Own .cy d wc ny ∗ ybB d wc ny ∗ OthD P Gm d wc) ∗ Owes d na nb)
      ⊢ iprop((((Own .cy d (wc + 1) ny ∗ ybB d (wc + 1) ny ∗ OthD P Gm d (wc + 1)) ∗ Owes d na nb) -∗ WP d (k ⟨⟩) Q) -∗ WP d (waitCy d wc >>= k) Q) := by
  unfold waitCy
  simp only [Prog.lift, Prog.bind_op, Prog.bind_ret, Prog.pure_eq_ret]
  iintro ⟨#Hctx, ⟨Hw, HB, HD⟩, HO⟩ Hk
  iapply (wait_own P Gm K .cy d wc ny na nb h1 (by omega) (by simp only [Fam.lvl]; omega) (by simp only [Fam.lvl]; omega)
    (src := ybV wc) (dst := othV d wc) (sem_cy wc) (cr_oth d wc)) $$ [Hw HO]
  · isplitr; · iexact Hctx
    isplitl [Hw]; · iexact Hw
    iexact HO
  iintro ⟨Hw, Hpay, HO⟩
  ihave H := (pay_cy P Gm d wc) $$ Hpay
  icases H with ⟨Hd, Hx⟩
  iapply Hk
  isplitl [Hw Hx HB Hd HD]
  · isplitl [Hw]; · iexact Hw
    isplitl [Hx HB]
    · iapply (yb_put d wc ny h1 h3)
      isplitl [Hx]; · iexact Hx
      iexact HB
    iapply (othD_add P Gm d wc)
    isplitl [Hd]; · iexact Hd
    iexact HD
  iexact HO

theorem waitYr_run (K : GSem nD τ sig → ℕ) (d : Dev nD) (ny nr ni nx : ℕ) (h1 : nr < 18) (h2 : nr < nx) (h3 : nr < ni) (h4 : ny ≤ nr) :
    iprop(ctx P Gm K ∗ (Own .yr d nr 18 ∗ Landed P Gm d ny nr) ∗ Owes d ni nx)
      ⊢ iprop((((Own .yr d (nr + 1) 18 ∗ Landed P Gm d ny (nr + 1)) ∗ Owes d ni nx) -∗ WP d (k ⟨⟩) Q) -∗ WP d (waitYr nr >>= k) Q) := by
  unfold waitYr
  simp only [Prog.lift, Prog.bind_op, Prog.bind_ret, Prog.pure_eq_ret]
  iintro ⟨#Hctx, ⟨Hw, HL⟩, HO⟩ Hk
  iapply (wait_own P Gm K .yr d nr 18 ni nx h1 h1 (by simp only [Fam.lvl]; omega) (by simp only [Fam.lvl]; omega)
    (src := ysV nr) (dst := ygV nr) (sem_yr nr) (cr_yg nr)) $$ [Hw HO]
  · isplitr; · iexact Hctx
    isplitl [Hw]; · iexact Hw
    iexact HO
  iintro ⟨Hw, Hpay, HO⟩
  ihave Hx := (pay_yr P Gm d nr) $$ Hpay
  iapply Hk
  isplitl [Hw Hx HL]
  · isplitl [Hw]; · iexact Hw
    iapply (show iprop(has d (ygV nr) (yl P Gm d nr) ∗ Landed P Gm d ny nr) ⊢ Landed P Gm d ny (nr + 1) from
      Entails.of_eq (bigSep_Ico_succ_top h4 (fun i => has d (ygV i) (yl P Gm d i))).symm)
    isplitl [Hx]; · iexact Hx
    iexact HL
  iexact HO

/-! ## Reading a device's own rows -/

theorem cpLoc_run (K : GSem nD τ sig → ℕ) (d : Dev nD) (nx : ℕ) (h1 : nx < 18) :
    iprop(ctx P Gm K ∗ (Own .cp1 d nx nx ∗ lB d nx nx) ∗ Src P d nx nx)
      ⊢ iprop((((Own .cp1 d nx (nx + 1) ∗ lB d nx (nx + 1)) ∗ Src P d nx (nx + 1)) -∗ WP d (k ⟨⟩) Q) -∗ WP d (cpLoc d nx >>= k) Q) := by
  unfold cpLoc
  simp only [Prog.lift, Prog.bind_op, Prog.bind_ret, Prog.pure_eq_ret]
  iintro ⟨#Hctx, ⟨Hcp, HB⟩, Hsrc⟩ Hk
  ihave H := (l_take d nx) $$ HB
  icases H with ⟨Hl, HB⟩
  ihave Hl := (any_elim d (lV nx)) $$ Hl
  icases Hl with ⟨%fd, Hl⟩
  ihave H := (src_loc_take P d nx) $$ Hsrc
  icases H with ⟨Hp, Hsrc⟩
  iapply (copy_own P Gm K .cp1 d nx nx (le_refl _) h1 (by simp only [Fam.w]; omega) (src := locV d nx) (dst := lV nx) (sem_cp1 nx) (cr_l nx) (P d) fd
    (show _ ⊢ iprop(has d (lV nx) ((locV d nx).view.read (Elt F) (P d)) ∗ pts d (locV d nx) (P d)) from sep_mono_left (write_has d d _ _ _ _ _ rfl))) $$ [Hcp Hp Hl]
  · isplitr; · iexact Hctx
    isplitl [Hcp]; · iexact Hcp
    isplitl [Hp]; · iexact Hp
    iexact Hl
  iintro Hcp
  iapply Hk
  isplitl [Hcp HB]
  · isplitl [Hcp]; · iexact Hcp
    iexact HB
  iexact Hsrc

/-! ## Reducing and normalising a segment -/

theorem mainX_run (K : GSem nD τ sig → ℕ) (d : Dev nD) (wy wo ni nx : ℕ) (h1 : nx < 18) (h2 : nx < ni) (h3 : wy ≤ nx) (h4 : nx < wy + 4)
    (h5 : wo ≤ nx) (h6 : nx < wo + 2) :
    iprop(ctx P Gm K ∗ (Own .cp1 d nx (nx + 1) ∗ lB d nx (nx + 1)) ∗ Src P d nx (nx + 1) ∗ (Own .xr d nx 18 ∗ xrB d nx 18)
        ∗ (Own .ys d wy nx ∗ ysB d wy nx) ∗ (Own .co d wo nx ∗ rsB d wo nx ∗ OutD P Gm d wo) ∗ OutT d nx ∗ Gam Gm d ∗ Yt d nx ∗ Owes d ni nx)
      ⊢ iprop((((Own .cp1 d (nx + 1) (nx + 1) ∗ lB d (nx + 1) (nx + 1)) ∗ Src P d (nx + 1) (nx + 1) ∗ (Own .xr d (nx + 1) 18 ∗ xrB d (nx + 1) 18)
        ∗ (Own .ys d wy (nx + 1) ∗ ysB d wy (nx + 1)) ∗ (Own .co d wo (nx + 1) ∗ rsB d wo (nx + 1) ∗ OutD P Gm d wo) ∗ OutT d (nx + 1) ∗ Gam Gm d
        ∗ Yt d (nx + 1) ∗ Owes d ni (nx + 1)) -∗ WP d (k ⟨⟩) Q) -∗ WP d (mainX d nx >>= k) Q) := by
  unfold mainX
  simp only [Prog.lift, Prog.bind_op, Prog.bind_ret, Prog.pure_eq_ret]
  iintro ⟨#Hctx, ⟨Hcp, HlB⟩, Hsrc, ⟨Hxr, HxrB⟩, ⟨Hys, HysB⟩, ⟨Hco, HrsB, HD⟩, HT, HG, HYt, HO⟩ Hk
  -- the peer's rows have landed
  iapply (wait_own P Gm K .xr d nx 18 ni nx h1 h1 (by simp only [Fam.lvl]; omega) (by simp only [Fam.lvl]; omega)
    (src := xsV nx) (dst := xrV nx) (sem_xr nx) (cr_xr nx)) $$ [Hxr HO]
  · isplitr; · iexact Hctx
    isplitl [Hxr]; · iexact Hxr
    iexact HO
  iintro ⟨Hxr, Hpay, HO⟩
  ihave Hb := (pay_xr P Gm d nx) $$ Hpay
  -- the device's own rows are read
  iapply (wait_own P Gm K .cp1 d nx (nx + 1) ni nx (by omega) h1 (by simp only [Fam.lvl]; omega) (by simp only [Fam.lvl]; omega)
    (src := locV d nx) (dst := lV nx) (sem_cp1 nx) (cr_l nx)) $$ [Hcp HO]
  · isplitr; · iexact Hctx
    isplitl [Hcp]; · iexact Hcp
    iexact HO
  iintro ⟨Hcp, Hpay, HO⟩
  ihave H := (pay_cp1 P Gm d nx) $$ Hpay
  icases H with ⟨Ha, Hp⟩
  iapply (load_rows d (Memref.whole cc0_scratch1) (rectL nx) (fun _ => rfl) ((locV d nx).view.read (Elt F) (P d))) $$ Ha
  iintro Ha
  iapply (load_slot d (Memref.whole cc0_scratch3) (rect18 nx) (fun _ => rfl) (sqz nx) (xv P (px d) nx)) $$ Hb
  iintro Hb
  ihave HG := (show Gam Gm d ⊢ (B d cc0_stg0_0 ↦{fullShare} Gm d : sProp 𝕄) from Entails.refl _) $$ HG
  iapply (wp_load_rect 𝒱₀ (d : Thread nD τ) none Set.univ (m := Memref.whole cc0_stg0_0)
    (r := Rect.unit (s := S1x4096) ![0, 0] S1x4096.size inb_S1x4096_S1x4096_0_0) (S := Finset.univ) (f := Gm d) (Finset.subset_univ _)) $$ HG
  iintro HG
  ihave HG := (show (View.loc (d : Thread nD τ) ((Memref.whole cc0_stg0_0).access (Rect.unit (s := S1x4096) ![0, 0] S1x4096.size inb_S1x4096_S1x4096_0_0))
    ↦{fullShare} Gm d : sProp 𝕄) ⊢ Gam Gm d from Entails.refl _) $$ HG
  -- the result's rows, and the rows for the peer
  ihave H := (rs_take d wo nx h5 h6) $$ HrsB
  icases H with ⟨Hr, HrsB⟩
  iapply (load_any d (Memref.whole cc0_scratch4) (rect2 nx) (fun _ => rfl) (sqz nx) (fun _ => rfl)) $$ Hr
  iintro Hr
  iapply (store_slot d (Memref.whole cc0_scratch4) (rect2 nx) (fun _ => rfl) (sqz nx) (shapeCast (S3 nx) (nv P Gm d nx) (cast23 nx) : FVec F (S3 nx) .f32)) $$ Hr
  iintro Hr
  ihave H := (ys_take d wy nx h3 h4) $$ HysB
  icases H with ⟨Hy, HysB⟩
  iapply (load_any d (Memref.whole cc0_scratch5) (rect4 nx) (fun _ => rfl) (sqz nx) (fun _ => rfl)) $$ Hy
  iintro Hy
  iapply (store_slot d (Memref.whole cc0_scratch5) (rect4 nx) (fun _ => rfl) (sqz nx) (yv P Gm d nx)) $$ Hy
  iintro Hy
  ihave Hy := (has_elim d (ysV nx) (fun x => yv P Gm d nx (sq nx x))) $$ Hy
  icases Hy with ⟨%fs, %hfs, Hy⟩
  ihave H := (show Yt d nx ⊢ (iprop((dutyTok ER (cell (py d) .yr nx) (nx / Fam.yr.w) true ∗ reached ER (cell (py d) .yr nx) (nx / Fam.yr.w) ∗ any (py d) (ygV nx)) ∗ Yt d (nx + 1)) : sProp 𝕄)
    from Entails.of_eq (bigSep_Ico_succ_bot h1 _)) $$ HYt
  icases H with ⟨⟨Ht, Hrc, Hd⟩, HYt⟩
  iapply (send_own P Gm K .ys .yr d (py d) wy nx ni nx ni (nx + 1) h3 h1 h4 (src := ysV nx) (dst := ygV nx) (sem_ys nx) (sem_yr nx) (cr_yg nx) rfl (owe_y d ni nx h1) fs
    (show _ ⊢ any d (ysV nx) from pts_any d (ysV nx) fs)
    (fun fd => show _ ⊢ has (py d) (ygV nx) (yl P Gm (py d) nx) from write_has (py d) d _ _ _ _ _ (by rw [hfs]; unfold yl; rw [py_py]))) $$ [Hys Hy Hd HO Ht Hrc]
  · isplitr; · iexact Hctx
    isplitl [Hys]; · iexact Hys
    isplitl [Hy]; · iexact Hy
    isplitl [Hd]; · iexact Hd
    isplitl [HO]; · iexact HO
    isplitl [Ht]; · iexact Ht
    iexact Hrc
  iintro ⟨Hys, HO⟩
  -- the copy out
  ihave Hr := (has_elim d (rsV nx) (ov P Gm d nx)) $$ Hr
  icases Hr with ⟨%fr, %hfr, Hr⟩
  ihave H := (show OutT d nx ⊢ (iprop(any d (outV d nx) ∗ OutT d (nx + 1)) : sProp 𝕄) from Entails.of_eq (bigSep_Ico_succ_bot h1 _)) $$ HT
  icases H with ⟨Ho, HT⟩
  ihave Ho := (any_elim d (outV d nx)) $$ Ho
  icases Ho with ⟨%fo, Ho⟩
  iapply (copy_own P Gm K .co d wo nx h5 h1 h6 (src := rsV nx) (dst := outV d nx) (sem_co nx) (cr_out d nx) fr fo
    (show _ ⊢ iprop(has d (outV d nx) (ov P Gm d nx) ∗ any d (rsV nx)) from BIClass.sep_mono (write_has d d _ _ _ _ _ hfr) (pts_any d _ _))) $$ [Hco Hr Ho]
  · isplitr; · iexact Hctx
    isplitl [Hco]; · iexact Hco
    isplitl [Hr]; · iexact Hr
    iexact Ho
  iintro Hco
  iapply Hk
  isplitl [Hcp Ha HlB]
  · isplitl [Hcp]; · iexact Hcp
    iapply (l_put d nx)
    isplitl [Ha]; · iapply (has_any d (lV nx) _); iexact Ha
    iexact HlB
  isplitl [Hp Hsrc]
  · iapply (src_loc_put P d nx)
    isplitl [Hp]; · iexact Hp
    iexact Hsrc
  isplitl [Hxr Hb HxrB]
  · isplitl [Hxr]; · iexact Hxr
    iapply (xr_put d nx h1)
    isplitl [Hb]; · iapply (has_any d (xrV nx) _); iexact Hb
    iexact HxrB
  isplitl [Hys HysB]
  · isplitl [Hys]; · iexact Hys
    iexact HysB
  isplitl [Hco HrsB HD]
  · isplitl [Hco]; · iexact Hco
    isplitl [HrsB]; · iexact HrsB
    iexact HD
  isplitl [HT]; · iexact HT
  isplitl [HG]; · iexact HG
  isplitl [HYt]; · iexact HYt
  iexact HO

/-! ## Taking in the peer's segment -/

theorem mainY_run (K : GSem nD τ sig → ℕ) (d : Dev nD) (wc ny nr na nb : ℕ) (h1 : nr ≤ 18) (h2 : ny < nr) (h3 : wc ≤ ny) (h4 : ny < wc + 2) :
    iprop(ctx P Gm K ∗ Landed P Gm d ny nr ∗ (Own .ci d ny ny ∗ yiB d ny ny ∗ ygB d ny 18)
        ∗ (Own .cy d wc ny ∗ ybB d wc ny ∗ OthD P Gm d wc) ∗ OthT d ny ∗ Owes d na nb)
      ⊢ iprop(((Landed P Gm d (ny + 1) nr ∗ (Own .ci d (ny + 1) (ny + 1) ∗ yiB d (ny + 1) (ny + 1) ∗ ygB d (ny + 1) 18)
        ∗ (Own .cy d wc (ny + 1) ∗ ybB d wc (ny + 1) ∗ OthD P Gm d wc) ∗ OthT d (ny + 1) ∗ Owes d na nb) -∗ WP d (k ⟨⟩) Q) -∗ WP d (mainY d ny >>= k) Q) := by
  unfold mainY
  simp only [Prog.lift, Prog.bind_op, Prog.bind_ret, Prog.pure_eq_ret]
  have h5 : ny < 18 := by omega
  iintro ⟨#Hctx, HL, ⟨Hci, HyiB, HygB⟩, ⟨Hcy, HybB, HD⟩, HT, HO⟩ Hk
  ihave H := (show Landed P Gm d ny nr ⊢ iprop(has d (ygV ny) (yl P Gm d ny) ∗ Landed P Gm d (ny + 1) nr) from Entails.of_eq (bigSep_Ico_succ_bot h2 _)) $$ HL
  icases H with ⟨Hg, HL⟩
  ihave Hg := (has_elim d (ygV ny) (yl P Gm d ny)) $$ Hg
  icases Hg with ⟨%fg, %hfg, Hg⟩
  ihave H := (yi_take d ny) $$ HyiB
  icases H with ⟨Hi, HyiB⟩
  ihave Hi := (any_elim d (yiV ny)) $$ Hi
  icases Hi with ⟨%fi, Hi⟩
  iapply (copy_own P Gm K .ci d ny ny (le_refl _) h5 (by simp only [Fam.w]; omega) (src := ygV ny) (dst := yiV ny) (sem_ci ny) (cr_yi ny) fg fi
    (show _ ⊢ iprop(has d (yiV ny) (yl P Gm d ny) ∗ any d (ygV ny)) from BIClass.sep_mono (write_has d d _ _ _ _ _ hfg) (pts_any d _ _))) $$ [Hci Hg Hi]
  · isplitr; · iexact Hctx
    isplitl [Hci]; · iexact Hci
    isplitl [Hg]; · iexact Hg
    iexact Hi
  iintro Hci
  iapply (wait_own P Gm K .ci d ny (ny + 1) na nb (by omega) h5 (by simp only [Fam.lvl]; omega) (by simp only [Fam.lvl]; omega)
    (src := ygV ny) (dst := yiV ny) (sem_ci ny) (cr_yi ny)) $$ [Hci HO]
  · isplitr; · iexact Hctx
    isplitl [Hci]; · iexact Hci
    iexact HO
  iintro ⟨Hci, Hpay, HO⟩
  ihave H := (pay_ci P Gm d ny) $$ Hpay
  icases H with ⟨Hi, Hg⟩
  iapply (load_slot d (Memref.whole cc0_scratch6) (rect2 ny) (fun _ => rfl) (sqz ny) (yv P Gm (py d) ny)) $$ Hi
  iintro Hi
  ihave H := (yb_take d wc ny h3 h4) $$ HybB
  icases H with ⟨Hb, HybB⟩
  iapply (load_any d (Memref.whole cc0_scratch7) (rect2 ny) (fun _ => rfl) (sqz ny) (fun _ => rfl)) $$ Hb
  iintro Hb
  iapply (store_slot d (Memref.whole cc0_scratch7) (rect2 ny) (fun _ => rfl) (sqz ny) (widen ny (yv P Gm (py d) ny) : FVec F (S3 ny) .f32)) $$ Hb
  iintro Hb
  ihave Hb := (has_elim d (ybV ny) (wv P Gm d ny)) $$ Hb
  icases Hb with ⟨%fb, %hfb, Hb⟩
  ihave H := (show OthT d ny ⊢ (iprop(any d (othV d ny) ∗ OthT d (ny + 1)) : sProp 𝕄) from Entails.of_eq (bigSep_Ico_succ_bot h5 _)) $$ HT
  icases H with ⟨Ho, HT⟩
  ihave Ho := (any_elim d (othV d ny)) $$ Ho
  icases Ho with ⟨%fo, Ho⟩
  iapply (copy_own P Gm K .cy d wc ny h3 h5 h4 (src := ybV ny) (dst := othV d ny) (sem_cy ny) (cr_oth d ny) fb fo
    (show _ ⊢ iprop(has d (othV d ny) (wv P Gm d ny) ∗ any d (ybV ny)) from BIClass.sep_mono (write_has d d _ _ _ _ _ hfb) (pts_any d _ _))) $$ [Hcy Hb Ho]
  · isplitr; · iexact Hctx
    isplitl [Hcy]; · iexact Hcy
    isplitl [Hb]; · iexact Hb
    iexact Ho
  iintro Hcy
  iapply Hk
  isplitl [HL]; · iexact HL
  isplitl [Hci Hi HyiB Hg HygB]
  · isplitl [Hci]; · iexact Hci
    isplitl [Hi HyiB]
    · iapply (yi_put d ny)
      isplitl [Hi]; · iapply (has_any d (yiV ny) _); iexact Hi
      iexact HyiB
    iapply (yg_put d ny h5)
    isplitl [Hg]; · iexact Hg
    iexact HygB
  isplitl [Hcy HybB HD]
  · isplitl [Hcy]; · iexact Hcy
    isplitl [HybB]; · iexact HybB
    iexact HD
  isplitl [HT]; · iexact HT
  iexact HO

end Cert.KernelIdeal.Run
-- ==== Proof.Walk.lean ====
/- The steps one after another: how far a device has come, what it holds then, and the run of the whole list. -/
module

public import proofs.«01_k».proof.Proof.Turns

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → main_v1.ty.Contents (Elt F)) (Gm : Dev nD → cc0_stg0_0.ty.Contents (Elt F))
variable {Q : PUnit.{1} → sProp (MT nD τ sig Unit (Elt F) ℕ UU ℕ)} {k : PUnit.{1} → KP F PUnit}

/-! ## How far a device has come -/

/-- How many segments have been sent, had their send waited for, been read locally, been reduced, and so on. -/
structure St where
  ni : ℕ
  wx : ℕ
  nl : ℕ
  nx : ℕ
  wy : ℕ
  wo : ℕ
  nr : ℕ
  ny : ℕ
  wc : ℕ
  deriving DecidableEq

/-- A step is in turn. -/
def St.ok (s : St) : Step → Bool
  | .issue i => decide (i = s.ni ∧ s.ni < 18 ∧ s.wx ≤ s.ni ∧ s.ni < s.wx + 4 ∧ s.nl = s.nx)
  | .cpLoc i => decide (i = s.nx ∧ s.nx < 18 ∧ s.nl = s.nx)
  | .waitXs i => decide (i = s.wx ∧ s.wx < s.ni ∧ s.ni ≤ 18 ∧ s.ni ≤ s.wx + 4)
  | .waitYs i => decide (i = s.wy ∧ s.wy < s.nx ∧ s.nx ≤ 18 ∧ s.nx ≤ s.wy + 4)
  | .waitCo i => decide (i = s.wo ∧ s.wo < s.nx ∧ s.nx ≤ 18 ∧ s.nx ≤ s.wo + 2)
  | .waitCy i => decide (i = s.wc ∧ s.wc < s.ny ∧ s.ny ≤ 18 ∧ s.ny ≤ s.wc + 2)
  | .mainX i => decide (i = s.nx ∧ s.nx < 18 ∧ s.nx < s.ni ∧ s.wy ≤ s.nx ∧ s.nx < s.wy + 4 ∧ s.wo ≤ s.nx ∧ s.nx < s.wo + 2 ∧ s.nl = s.nx + 1)
  | .waitYr i => decide (i = s.nr ∧ s.nr < 18 ∧ s.nr < s.nx ∧ s.nr < s.ni ∧ s.ny ≤ s.nr)
  | .mainY i => decide (i = s.ny ∧ s.nr ≤ 18 ∧ s.ny < s.nr ∧ s.wc ≤ s.ny ∧ s.ny < s.wc + 2)

/-- Where it is after the step. -/
def St.next (s : St) : Step → St
  | .issue _ => { s with ni := s.ni + 1 }
  | .cpLoc _ => { s with nl := s.nl + 1 }
  | .waitXs _ => { s with wx := s.wx + 1 }
  | .waitYs _ => { s with wy := s.wy + 1 }
  | .waitCo _ => { s with wo := s.wo + 1 }
  | .waitCy _ => { s with wc := s.wc + 1 }
  | .mainX _ => { s with nx := s.nx + 1 }
  | .waitYr _ => { s with nr := s.nr + 1 }
  | .mainY _ => { s with ny := s.ny + 1 }

/-- A list of steps is in turn throughout. -/
def St.okAll (s : St) : List Step → Bool
  | [] => true
  | t :: ts => s.ok t && (s.next t).okAll ts
/-- Where it is after the list. -/
def St.after (s : St) : List Step → St
  | [] => s
  | t :: ts => (s.next t).after ts

/-- Before the first step. -/
def St.start : St := ⟨0, 0, 0, 0, 0, 0, 0, 0, 0⟩
/-- After the last. -/
def St.done : St := ⟨18, 18, 18, 18, 18, 18, 18, 18, 18⟩

theorem steps_ok : St.start.okAll steps = true := by decide +kernel
theorem steps_after : St.start.after steps = St.done := by decide +kernel

/-- What a device holds when it has come so far. -/
def Inv (d : Dev nD) (s : St) : sProp 𝕄 :=
  iprop((Own .cp0 d s.ni s.ni ∗ sB d s.ni s.ni)
    ∗ (Own .cp1 d s.nx s.nl ∗ lB d s.nx s.nl)
    ∗ Src P d s.nx s.nl
    ∗ (Own .xs d s.wx s.ni ∗ xsB d s.wx s.ni)
    ∗ (Own .xr d s.nx 18 ∗ xrB d s.nx 18)
    ∗ (Own .ys d s.wy s.nx ∗ ysB d s.wy s.nx)
    ∗ (Own .yr d s.nr 18 ∗ Landed P Gm d s.ny s.nr)
    ∗ (Own .co d s.wo s.nx ∗ rsB d s.wo s.nx ∗ OutD P Gm d s.wo)
    ∗ OutT d s.nx
    ∗ (Own .ci d s.ny s.ny ∗ yiB d s.ny s.ny ∗ ygB d s.ny 18)
    ∗ (Own .cy d s.wc s.ny ∗ ybB d s.wc s.ny ∗ OthD P Gm d s.wc)
    ∗ OthT d s.ny
    ∗ Gam Gm d
    ∗ Xt d s.ni
    ∗ Yt d s.nx
    ∗ Owes d s.ni s.nx)

/-! ## The run of a list -/

theorem step_run (K : GSem nD τ sig → ℕ) (d : Dev nD) (s : St) (t : Step) (h : s.ok t = true) :
    iprop(ctx P Gm K ∗ Inv P Gm d s) ⊢ iprop((Inv P Gm d (s.next t) -∗ WP d (k ⟨⟩) Q) -∗ WP d (t.prog d >>= k) Q) := by
  obtain ⟨ni, wx, nl, nx, wy, wo, nr, ny, wc⟩ := s
  unfold Inv
  cases t <;> simp only [St.ok, St.next, decide_eq_true_eq, Step.prog] at h ⊢
  · obtain ⟨rfl, h1, h2, h3, rfl⟩ := h
    iintro ⟨#Hctx, Hcp0, Hcp1, HSrc, Hxs, Hxr, Hys, Hyr, Hco, HOutT, Hci, Hcy, HOthT, HGam, HXt, HYt, HOw⟩ Hk
    iapply (issue_run P Gm K d wx _ _ h1 h2 h3) $$ [Hcp0 Hxs HSrc HXt HOw]
    · iframe Hctx Hcp0 Hxs HSrc HXt HOw
    iintro ⟨Hcp0, Hxs, HSrc, HXt, HOw⟩
    iapply Hk
    iframe Hcp0 Hcp1 HSrc Hxs Hxr Hys Hyr Hco HOutT Hci Hcy HOthT HGam HXt HYt HOw
  · obtain ⟨rfl, h1, rfl⟩ := h
    iintro ⟨#Hctx, Hcp0, Hcp1, HSrc, Hxs, Hxr, Hys, Hyr, Hco, HOutT, Hci, Hcy, HOthT, HGam, HXt, HYt, HOw⟩ Hk
    iapply (cpLoc_run P Gm K d _ h1) $$ [Hcp1 HSrc]
    · iframe Hctx Hcp1 HSrc
    iintro ⟨Hcp1, HSrc⟩
    iapply Hk
    iframe Hcp0 Hcp1 HSrc Hxs Hxr Hys Hyr Hco HOutT Hci Hcy HOthT HGam HXt HYt HOw
  · obtain ⟨rfl, h1, h2, h3⟩ := h
    iintro ⟨#Hctx, Hcp0, Hcp1, HSrc, Hxs, Hxr, Hys, Hyr, Hco, HOutT, Hci, Hcy, HOthT, HGam, HXt, HYt, HOw⟩ Hk
    iapply (waitXs_run P Gm K d _ ni ni nx h1 h2 h3) $$ [Hxs HOw]
    · iframe Hctx Hxs HOw
    iintro ⟨Hxs, HOw⟩
    iapply Hk
    iframe Hcp0 Hcp1 HSrc Hxs Hxr Hys Hyr Hco HOutT Hci Hcy HOthT HGam HXt HYt HOw
  · obtain ⟨rfl, h1, h2, h3⟩ := h
    iintro ⟨#Hctx, Hcp0, Hcp1, HSrc, Hxs, Hxr, Hys, Hyr, Hco, HOutT, Hci, Hcy, HOthT, HGam, HXt, HYt, HOw⟩ Hk
    iapply (waitYs_run P Gm K d _ nx ni nx h1 h2 h3) $$ [Hys HOw]
    · iframe Hctx Hys HOw
    iintro ⟨Hys, HOw⟩
    iapply Hk
    iframe Hcp0 Hcp1 HSrc Hxs Hxr Hys Hyr Hco HOutT Hci Hcy HOthT HGam HXt HYt HOw
  · obtain ⟨rfl, h1, h2, h3⟩ := h
    iintro ⟨#Hctx, Hcp0, Hcp1, HSrc, Hxs, Hxr, Hys, Hyr, Hco, HOutT, Hci, Hcy, HOthT, HGam, HXt, HYt, HOw⟩ Hk
    iapply (waitCo_run P Gm K d _ nx ni nx h1 h2 h3) $$ [Hco HOw]
    · iframe Hctx Hco HOw
    iintro ⟨Hco, HOw⟩
    iapply Hk
    iframe Hcp0 Hcp1 HSrc Hxs Hxr Hys Hyr Hco HOutT Hci Hcy HOthT HGam HXt HYt HOw
  · obtain ⟨rfl, h1, h2, h3⟩ := h
    iintro ⟨#Hctx, Hcp0, Hcp1, HSrc, Hxs, Hxr, Hys, Hyr, Hco, HOutT, Hci, Hcy, HOthT, HGam, HXt, HYt, HOw⟩ Hk
    iapply (waitCy_run P Gm K d _ ny ni nx h1 h2 h3) $$ [Hcy HOw]
    · iframe Hctx Hcy HOw
    iintro ⟨Hcy, HOw⟩
    iapply Hk
    iframe Hcp0 Hcp1 HSrc Hxs Hxr Hys Hyr Hco HOutT Hci Hcy HOthT HGam HXt HYt HOw
  · obtain ⟨rfl, h1, h2, h3, h4, h5, h6, rfl⟩ := h
    iintro ⟨#Hctx, Hcp0, Hcp1, HSrc, Hxs, Hxr, Hys, Hyr, Hco, HOutT, Hci, Hcy, HOthT, HGam, HXt, HYt, HOw⟩ Hk
    iapply (mainX_run P Gm K d wy wo ni _ h1 h2 h3 h4 h5 h6) $$ [Hcp1 HSrc Hxr Hys Hco HOutT HGam HYt HOw]
    · iframe Hctx Hcp1 HSrc Hxr Hys Hco HOutT HGam HYt HOw
    iintro ⟨Hcp1, HSrc, Hxr, Hys, Hco, HOutT, HGam, HYt, HOw⟩
    iapply Hk
    iframe Hcp0 Hcp1 HSrc Hxs Hxr Hys Hyr Hco HOutT Hci Hcy HOthT HGam HXt HYt HOw
  · obtain ⟨rfl, h1, h2, h3, h4⟩ := h
    iintro ⟨#Hctx, Hcp0, Hcp1, HSrc, Hxs, Hxr, Hys, Hyr, Hco, HOutT, Hci, Hcy, HOthT, HGam, HXt, HYt, HOw⟩ Hk
    iapply (waitYr_run P Gm K d ny _ ni nx h1 h2 h3 h4) $$ [Hyr HOw]
    · iframe Hctx Hyr HOw
    iintro ⟨Hyr, HOw⟩
    iapply Hk
    iframe Hcp0 Hcp1 HSrc Hxs Hxr Hys Hyr Hco HOutT Hci Hcy HOthT HGam HXt HYt HOw
  · obtain ⟨rfl, h1, h2, h3, h4⟩ := h
    iintro ⟨#Hctx, Hcp0, Hcp1, HSrc, Hxs, Hxr, Hys, ⟨Hyr, HL⟩, Hco, HOutT, Hci, Hcy, HOthT, HGam, HXt, HYt, HOw⟩ Hk
    iapply (mainY_run P Gm K d wc _ nr ni nx h1 h2 h3 h4) $$ [HL Hci Hcy HOthT HOw]
    · iframe Hctx HL Hci Hcy HOthT HOw
    iintro ⟨HL, Hci, Hcy, HOthT, HOw⟩
    iapply Hk
    iframe Hcp0 Hcp1 HSrc Hxs Hxr Hys Hyr HL Hco HOutT Hci Hcy HOthT HGam HXt HYt HOw

theorem list_run (K : GSem nD τ sig → ℕ) (d : Dev nD) (ts : List Step) (s : St) (h : s.okAll ts = true) :
    iprop(ctx P Gm K ∗ Inv P Gm d s) ⊢ WP d (runSteps d ts) (fun _ => Inv P Gm d (s.after ts)) := by
  induction ts generalizing s with
  | nil =>
    unfold runSteps St.after
    iintro ⟨-, H⟩
    iapply (le_wp_ret (wpE := wpE (defs₀ (F := F)) 𝒱₀ (d : Thread nD τ) none))
    iexact H
  | cons t ts ih =>
    simp only [St.okAll, Bool.and_eq_true] at h
    unfold runSteps St.after
    iintro ⟨#Hctx, H⟩
    iapply (step_run P Gm K d s t h.1) $$ [H]
    · iframe Hctx H
    iintro H
    iapply (ih (s.next t) h.2)
    iframe Hctx H

/-- The whole list of steps, from its start to its end. -/
theorem steps_run (K : GSem nD τ sig → ℕ) (d : Dev nD) :
    iprop(ctx P Gm K ∗ Inv P Gm d St.start) ⊢ WP d (runSteps d steps) (fun _ => Inv P Gm d St.done) := by
  have h := list_run P Gm K d steps St.start steps_ok
  rwa [steps_after] at h

end Cert.KernelIdeal.Run
-- ==== Proof.Body.lean ====
/- The body on one device: what it starts from, the two signals and the wait, the steps, and what it ends with. -/
module

public import proofs.«01_k».proof.Proof.Walk
public import Idealize.ShloMosaic.Lib.Ring

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → main_v1.ty.Contents (Elt F)) (Gm : Dev nD → cc0_stg0_0.ty.Contents (Elt F))

theorem big_insert {I : Type} [DecidableEq I] {S : Finset I} {i : I} (h : i ∉ S) {Φ : I → sProp 𝕄} :
    bigSep (insert i S) Φ = iprop(Φ i ∗ bigSep S Φ) := bigSep_insert h
theorem big_mono {I : Type} {S : Finset I} {Φ Ψ : I → sProp 𝕄} (h : ∀ i ∈ S, Φ i ⊢ Ψ i) : bigSep S Φ ⊢ bigSep S Ψ := bigSep_mono h

/-! ## A kind of transfer, from its first segment to its last -/

/-- The tokens of all segments of a kind that land on device `d`. -/
def Tok (f : Fam) (d : Dev nD) : sProp 𝕄 := bigSep (Finset.Ico 0 18) fun i => dutyTok ER (cell d f i) (i / f.w) true
/-- The credits of all its segments. -/
def Crd (f : Fam) (d : Dev nD) : sProp 𝕄 := bigSep (Finset.Ico 0 18) fun i => cred (tallyAt (cell d f i) () (f.amt i))
/-- Its cells, opened. -/
def Opn (f : Fam) (d : Dev nD) : sProp 𝕄 :=
  bigSep Finset.univ fun j : Fin f.w => iprop(atPos ER ((d : Thread nD τ), osem ⟨f, j⟩) 0 ∅ 0 ∗ reached ER ((d : Thread nD τ), osem ⟨f, j⟩) 0)
/-- Its cells, their counters back at zero. -/
def Cls (f : Fam) (d : Dev nD) : sProp 𝕄 := bigSep Finset.univ fun j : Fin f.w => semVal ((d : Thread nD τ), osem ⟨f, j⟩) 0

theorem fin_range {f : Fam} (D : Fin f.w → sProp 𝕄) (Ψ : ℕ → sProp 𝕄) (h : ∀ j : Fin f.w, Ψ j = D j) :
    bigSep Finset.univ D = bigSep (Finset.Ico 0 f.w) Ψ := by
  rw [← Finset.range_eq_Ico]
  exact Ring.bigSep_fin_eq_range f.w D Ψ fun t ht => h ⟨t, ht⟩

theorem opn_eq (f : Fam) (d : Dev nD) : (Opn f d : sProp 𝕄) = iprop((bigSep (Finset.Ico 0 f.w) fun i => atPos ER (cell d f i) (i / f.w) ∅ 0)
    ∗ bigSep (Finset.Ico 0 f.w) fun i => reached ER (cell d f i) (i / f.w)) := by
  unfold Opn
  rw [fin_range _ (fun i => iprop(atPos ER (cell d f i) (i / f.w) ∅ 0 ∗ reached ER (cell d f i) (i / f.w)))
    (fun j => by rw [Nat.div_eq_of_lt j.isLt]; rfl), bigSep_sep']

/-- Before the first segment of a kind the device pays for itself. -/
theorem own_local (f : Fam) (d : Dev nD) : iprop(Tok f d ∗ Opn f d) ⊢ (Own f d 0 0 : sProp 𝕄) := by
  rw [opn_eq]
  unfold Own Tok
  rw [Finset.Ico_self, bigSep_empty, Nat.zero_add]
  iintro ⟨HT, HA, HR⟩
  iframe HT HA HR
  iempintro
/-- Before the first segment of a kind a peer pays for. -/
theorem own_landing (f : Fam) (d : Dev nD) : iprop(Crd f d ∗ Opn f d) ⊢ (Own f d 0 18 : sProp 𝕄) := by
  rw [opn_eq]
  unfold Own Crd
  rw [Finset.Ico_self, bigSep_empty, Nat.zero_add]
  iintro ⟨HT, HA, HR⟩
  iframe HT HA HR
  iempintro

/-- A family that comes round every `w` numbers, over any `w` numbers in a row. -/
theorem big_turn (w : ℕ) (hw : 0 < w) (A : ℕ → sProp 𝕄) (h : ∀ k, A (k + w) = A k) (n : ℕ) :
    bigSep (Finset.Ico n (n + w)) A = bigSep (Finset.Ico 0 w) A := by
  induction n with
  | zero => rw [Nat.zero_add]
  | succ n ih =>
    rw [← ih, bigSep_Ico_succ_bot (show n < n + w by omega), show n + 1 + w = n + w + 1 by omega,
      bigSep_Ico_succ_top (show n + 1 ≤ n + w by omega), h]

/-- After the last segment the counters are taken back. -/
theorem own_close (K : GSem nD τ sig → ℕ) (f : Fam) (d : Dev nD) :
    iprop(invs P Gm K ∗ Own f d 18 18) ⊢ (iprop(|={Set.univ}=> Cls f d) : sProp 𝕄) := by
  have hc : (Cls f d : sProp 𝕄) = bigSep (Finset.Ico 18 (18 + f.w)) fun i => semVal (cell d f i) 0 := by
    unfold Cls
    rw [big_turn f.w f.w_pos (fun i => semVal (cell d f i) 0) (fun k => by unfold cell; rw [sem_add]) 18]
    exact fin_range _ _ fun j => rfl
  have hk : ∀ i ∈ Finset.Ico 18 (18 + f.w), iprop(invs P Gm K ∗ atPos ER (cell d f i) (i / f.w) ∅ 0)
      ⊢ (iprop(cellInv ER (talkRd P Gm) (K (cell d f i)) (cell d f i) ∗ atPos ER (cell d f i) (i / f.w) ∅ 0) : sProp 𝕄) := fun i _ => by
    iintro ⟨#HI, HA⟩
    isplitr
    · iapply (inv_cell P Gm K d f i); iexact HI
    iexact HA
  rw [hc]
  refine BIBase.Entails.trans ?_ (cells_close ER (talkRd P Gm) (Finset.Ico 18 (18 + f.w)) (fun i => cell d f i) (fun i => K (cell d f i))
    (fun _ _ => Set.mem_univ _) (fun _ _ => id) (fun i => i / f.w)
    (fun i hi r hr => duties_after P Gm d f i (Finset.mem_Ico.mp hi).1 r hr))
  unfold Own
  iintro ⟨#HI, -, -, HA, -⟩
  iapply (bigSep_with_persistent hk)
  isplitr; · iexact HI
  iexact HA

/-- One conjunct per kind, written out. -/
theorem big_fam (Φ : Fam → sProp 𝕄) : bigSep Finset.univ Φ
    = iprop(Φ .xs ∗ Φ .xr ∗ Φ .ys ∗ Φ .yr ∗ Φ .cp0 ∗ Φ .cp1 ∗ Φ .co ∗ Φ .ci ∗ Φ .cy) :=
  bigSep_univ_eq_bigSepL [Fam.xs, .xr, .ys, .yr, .cp0, .cp1, .co, .ci, .cy] (by decide) (by decide) Φ

/-! ## The result buffer, cut into the rows written -/

section Pieces

variable {I : Type} [DecidableEq I] {ℓ : Loc nD τ sig}

/-- A region split into pieces and the rest. -/
theorem pieces_split (K : Finset I) (S : I → Finset (Idx ℓ)) (T : Finset (Idx ℓ)) (hs : ∀ i ∈ K, S i ⊆ T)
    (hd : ∀ i ∈ K, ∀ j ∈ K, i ≠ j → Disjoint (S i) (S j)) (f : Buf (Elt F) ℓ) :
    (ℓ ↦[T]{fullShare} f : sProp 𝕄) ⊢ iprop((bigSep K fun i => ℓ ↦[S i]{fullShare} f) ∗ ℓ ↦[T \ K.biUnion S]{fullShare} f) := by
  rw [← pointsTo_biUnion K S (fun i hi j hj h => hd i hi j hj h)]
  exact (pointsTo_split_subset (Finset.biUnion_subset.mpr hs)).1

/-- Pieces, each with a fact about its contents, and the rest put together: all the facts hold of the whole. -/
theorem pieces_join (K : Finset I) (S : I → Finset (Idx ℓ)) (T : Finset (Idx ℓ)) (hs : ∀ i ∈ K, S i ⊆ T)
    (hd : ∀ i ∈ K, ∀ j ∈ K, i ≠ j → Disjoint (S i) (S j)) (φ : I → Buf (Elt F) ℓ → Prop)
    (hφ : ∀ i g g', (∀ x ∈ S i, g x = g' x) → φ i g → φ i g') (f : Buf (Elt F) ℓ) :
    iprop((bigSep K fun i => iprop(∃ g, ⌜φ i g⌝ ∗ ℓ ↦[S i]{fullShare} g)) ∗ ℓ ↦[T \ K.biUnion S]{fullShare} f)
      ⊢ (iprop(∃ g, ⌜(∀ i ∈ K, φ i g) ∧ ∀ x, x ∉ K.biUnion S → g x = f x⌝ ∗ ℓ ↦[T]{fullShare} g) : sProp 𝕄) := by
  induction K using Finset.induction_on generalizing f with
  | empty =>
    iintro ⟨-, H⟩
    iexists f
    isplitr
    · ipureintro; exact ⟨fun i hi => absurd hi (Finset.notMem_empty i), fun x _ => rfl⟩
    rw [Finset.biUnion_empty, Finset.sdiff_empty]
    iexact H
  | insert i K hi ih =>
    have hsub : S i ⊆ T \ K.biUnion S := fun x hx => Finset.mem_sdiff.mpr ⟨hs i (Finset.mem_insert_self i K) hx, fun hx' => by
      obtain ⟨j, hj, hxj⟩ := Finset.mem_biUnion.mp hx'
      exact Finset.disjoint_left.mp (hd i (Finset.mem_insert_self i K) j (Finset.mem_insert_of_mem hj) (fun e => hi (e ▸ hj))) hx hxj⟩
    have hrest : (T \ K.biUnion S) \ S i = T \ (insert i K).biUnion S := by
      rw [Finset.biUnion_insert, Finset.union_comm, sdiff_sdiff_left, Finset.sup_eq_union]
    rw [big_insert hi, ← hrest]
    iintro ⟨⟨⟨%g, %hg, Hg⟩, HK⟩, HR⟩
    ihave HR := (pointsTo_join_subset hsub) $$ [Hg HR]
    · isplitl [Hg]; · iexact Hg
      iexact HR
    ihave H := (ih (fun j hj => hs j (Finset.mem_insert_of_mem hj))
      (fun j hj k hk => hd j (Finset.mem_insert_of_mem hj) k (Finset.mem_insert_of_mem hk)) ((S i).piecewise g f)) $$ [HK HR]
    · isplitl [HK]; · iexact HK
      iexact HR
    icases H with ⟨%g', %hg', H⟩
    iexists g'
    isplitr
    · ipureintro
      refine ⟨fun j hj => ?_, fun x hx => ?_⟩
      · rcases Finset.mem_insert.mp hj with rfl | hj
        · refine hφ j g g' (fun x hx => ?_) hg
          rw [hg'.2 x (Finset.mem_sdiff.mp (hsub hx)).2, Finset.piecewise_eq_of_mem _ _ _ hx]
        · exact hg'.1 j hj
      · rw [Finset.biUnion_insert, Finset.mem_union, not_or] at hx
        rw [hg'.2 x hx.2, Finset.piecewise_eq_of_notMem _ _ _ hx.1]
    iexact H

end Pieces

/-- The result buffer's elements of segment `i`: the device's own part, and its peer's. -/
abbrev outSet (d : Dev nD) (i : ℕ) : Finset (Idx (B d main_v3_0)) := (outV d i).view.set
abbrev othSet (d : Dev nD) (i : ℕ) : Finset (Idx (B d main_v3_0)) := (othV d i).view.set
/-- What lies outside the device's own part. -/
abbrev offOut (d : Dev nD) : Finset (Idx (B d main_v3_0)) := Finset.univ \ (Finset.Ico 0 18).biUnion (outSet d)
/-- What lies in neither part. -/
def Rest (d : Dev nD) : sProp 𝕄 :=
  iprop(∃ f : Buf (Elt F) (B d main_v3_0), B d main_v3_0 ↦[offOut d \ (Finset.Ico 0 18).biUnion (othSet d)]{fullShare} f)

theorem oth_sub (d : Dev nD) (j : ℕ) : othSet d j ⊆ offOut d := fun x hx => by
  refine Finset.mem_sdiff.mpr ⟨Finset.mem_univ _, fun hx' => ?_⟩
  obtain ⟨i, -, hxi⟩ := Finset.mem_biUnion.mp hx'
  exact Finset.disjoint_left.mp (out_oth_sep d i j) hxi hx
theorem out_dj (d : Dev nD) : ∀ i ∈ Finset.Ico 0 18, ∀ j ∈ Finset.Ico 0 18, i ≠ j → Disjoint (outSet d i) (outSet d j) :=
  fun i hi j hj h => out_sep d i j (Finset.mem_Ico.mp hi).2 (Finset.mem_Ico.mp hj).2 h
theorem oth_dj (d : Dev nD) : ∀ i ∈ Finset.Ico 0 18, ∀ j ∈ Finset.Ico 0 18, i ≠ j → Disjoint (othSet d i) (othSet d j) :=
  fun i hi j hj h => oth_sep d i j (Finset.mem_Ico.mp hi).2 (Finset.mem_Ico.mp hj).2 h

/-- The result buffer is the rows to write and the rest. -/
theorem res_split (d : Dev nD) (f : Buf (Elt F) (B d main_v3_0)) :
    (B d main_v3_0 ↦{fullShare} f : sProp 𝕄) ⊢ iprop(OutT d 0 ∗ OthT d 0 ∗ Rest d) := by
  unfold OutT OthT Rest
  iintro H
  ihave H := (pieces_split (Finset.Ico 0 18) (outSet d) Finset.univ (fun _ _ => Finset.subset_univ _) (out_dj d) f) $$ H
  icases H with ⟨HO, H⟩
  ihave H := (pieces_split (Finset.Ico 0 18) (othSet d) (offOut d) (fun j _ => oth_sub d j) (oth_dj d) f) $$ H
  icases H with ⟨HY, H⟩
  isplitl [HO]
  · iapply (big_mono fun i _ => pts_any d (outV d i) f); iexact HO
  isplitl [HY]
  · iapply (big_mono fun i _ => pts_any d (othV d i) f); iexact HY
  iexists f; iexact H

/-- What the result buffer must read: each row block the device's own or the one its peer sent. -/
def Res (d : Dev nD) (g : Buf (Elt F) (B d main_v3_0)) : Prop :=
  ∀ i ∈ Finset.Ico 0 18, (outV d i).view.read (Elt F) g = ov P Gm d i ∧ (othV d i).view.read (Elt F) g = wv P Gm d i
/-- The result buffer at such contents. -/
def Done (d : Dev nD) : sProp 𝕄 := iprop(∃ g : Buf (Elt F) (B d main_v3_0), ⌜Res P Gm d g⌝ ∗ B d main_v3_0 ↦{fullShare} g)

theorem res_join (d : Dev nD) : iprop(OutD P Gm d 18 ∗ OthD P Gm d 18 ∗ Rest d) ⊢ Done P Gm d := by
  unfold OutD OthD Rest Done
  iintro ⟨HO, HY, %f, H⟩
  ihave H := (pieces_join (Finset.Ico 0 18) (othSet d) (offOut d) (fun j _ => oth_sub d j) (oth_dj d)
    (fun i g => (othV d i).view.read (Elt F) g = wv P Gm d i) (fun i g g' h hg => (View.read_congr fun x hx => (h x hx).symm).trans hg) f) $$ [HY H]
  · isplitl [HY]; · iexact HY
    iexact H
  icases H with ⟨%g, %hg, H⟩
  ihave H := (pieces_join (Finset.Ico 0 18) (outSet d) Finset.univ (fun _ _ => Finset.subset_univ _) (out_dj d)
    (fun i g => (outV d i).view.read (Elt F) g = ov P Gm d i) (fun i g g' h hg => (View.read_congr fun x hx => (h x hx).symm).trans hg) g) $$ [HO H]
  · isplitl [HO]; · iexact HO
    iexact H
  icases H with ⟨%g', %hg', H⟩
  iexists g'
  isplitr
  · ipureintro
    exact fun i hi => ⟨hg'.1 i hi, (View.read_congr fun x hx => hg'.2 x (Finset.mem_sdiff.mp (oth_sub d i hx)).2).trans (hg.1 i hi)⟩
  iexact H

/-! ## From the start of the body to its steps -/

/-- A whole buffer at some contents. -/
abbrev whole (d : Dev nD) (b : Ref sig .tc) : sProp 𝕄 := iprop(∃ f : Buf (Elt F) (B d b), B d b ↦{fullShare} f)

/-- Where a kind's segments started by device `d` land. -/
def dest (f : Fam) (d : Dev nD) : Dev nD := match f with
  | .xr => px d
  | .yr => py d
  | _ => d

/-- What device `d` owes when it starts: every segment to its peers, and a signal to each. -/
def O₀ (d : Dev nD) : CellTallies nD τ sig Unit := owe d 0 0 + tallyAt (barCell (py d)) () 1 + tallyAt (barCell (px d)) () 1

/-- What the launch gives a device. -/
def Start (d : Dev nD) : sProp 𝕄 :=
  iprop((atPos ER (barCell d) 0 ∅ 0 ∗ cred (tallyAt (barCell d) () 2))
    ∗ (dutyTok ER (barCell (px d)) 0 true ∗ reached ER (barCell (px d)) 0)
    ∗ (dutyTok ER (barCell (py d)) 0 false ∗ reached ER (barCell (py d)) 0)
    ∗ (bigSep Finset.univ fun f => Tok f (dest f d)) ∗ (bigSep Finset.univ fun f => Opn f d) ∗ Crd .xr d ∗ Crd .yr d)

/-- The scratch buffers. -/
def Scr (d : Dev nD) : sProp 𝕄 :=
  iprop(whole d cc0_scratch0 ∗ whole d cc0_scratch1 ∗ whole d cc0_scratch2 ∗ whole d cc0_scratch3 ∗ whole d cc0_scratch4 ∗ whole d cc0_scratch5
    ∗ whole d cc0_scratch6 ∗ whole d cc0_scratch7)

theorem src_whole (d : Dev nD) (n : ℕ) : Src P d n n = (B d main_v1 ↦{fullShare} P d) := by
  unfold Src; rw [Finset.Ico_self, Finset.biUnion_empty, Finset.sdiff_empty]

/-- The own landing slots, for the peer across the first axis. -/
theorem give_x (d : Dev nD) : iprop((bigSep (Finset.Ico 0 18) fun i => reached ER (cell d .xr i) (i / Fam.xr.w)) ∗ bigSep (Finset.Ico 0 18) fun i => any d (xrV i))
    ⊢ (barX (px d) : sProp 𝕄) := by
  unfold barX; rw [px_px, bigSep_sep']
theorem give_y (d : Dev nD) : iprop((bigSep (Finset.Ico 0 18) fun i => reached ER (cell d .yr i) (i / Fam.yr.w)) ∗ bigSep (Finset.Ico 0 18) fun i => any d (ygV i))
    ⊢ (barY (py d) : sProp 𝕄) := by
  unfold barY; rw [py_py, bigSep_sep']
/-- The peers' landing slots and rows, each with its token. -/
theorem get_x (d : Dev nD) : iprop(Tok .xr (px d) ∗ barX d) ⊢ (Xt d 0 : sProp 𝕄) := by
  unfold Tok barX Xt; rw [← bigSep_sep']
theorem get_y (d : Dev nD) : iprop(Tok .yr (py d) ∗ barY d) ⊢ (Yt d 0 : sProp 𝕄) := by
  unfold Tok barY Yt; rw [← bigSep_sep']

theorem opn_reached (f : Fam) (d : Dev nD) : Opn f d ⊢ (iprop((bigSep (Finset.Ico 0 f.w) fun i => reached ER (cell d f i) (i / f.w)) ∗ Opn f d) : sProp 𝕄) := by
  rw [opn_eq]
  iintro ⟨HA, #HR⟩
  iframe HR HA

/-- What is held when the steps begin, from what was given and what the signals brought. -/
theorem enter (d : Dev nD) :
    iprop(((bigSep Finset.univ fun f => Tok f (dest f d)) ∗ (bigSep Finset.univ fun f => Opn f d) ∗ Crd .xr d ∗ Crd .yr d)
        ∗ (whole d cc0_scratch0 ∗ whole d cc0_scratch1 ∗ whole d cc0_scratch2 ∗ xrB d 0 18 ∗ whole d cc0_scratch4 ∗ whole d cc0_scratch5
          ∗ whole d cc0_scratch6 ∗ whole d cc0_scratch7)
        ∗ (B d main_v1 ↦{fullShare} P d) ∗ (OutT d 0 ∗ OthT d 0) ∗ ygB d 0 18 ∗ barX d ∗ barY d ∗ Gam Gm d ∗ Owes d 0 0)
      ⊢ Inv P Gm d St.start := by
  unfold Inv St.start Landed OutD OthD
  dsimp only
  rw [big_fam, big_fam, src_whole, Finset.Ico_self, bigSep_empty, bigSep_empty, bigSep_empty]
  simp only [sB, lB, xsB, rsB, ysB, yiB, ybB, ring_whole]
  iintro ⟨⟨⟨Hxs, Hxr, Hys, Hyr, H0, H1, Hco, Hci, Hcy⟩, ⟨Kxs, Kxr, Kys, Kyr, K0, K1, Kco, Kci, Kcy⟩, Cx, Cy⟩, ⟨B0, B1, B2, B3, B4, B5, B6, B7⟩,
    HP, ⟨HO, HY⟩, Hyg, HX, HZ, HG, HW⟩
  isplitl [H0 K0 B0]
  · isplitr [B0]
    · iapply (own_local .cp0 d); iframe H0 K0
    iexact B0
  isplitl [H1 K1 B1]
  · isplitr [B1]
    · iapply (own_local .cp1 d); iframe H1 K1
    iexact B1
  isplitl [HP]; · iexact HP
  isplitl [Hxs Kxs B2]
  · isplitr [B2]
    · iapply (own_local .xs d); iframe Hxs Kxs
    iexact B2
  isplitl [Cx Kxr B3]
  · isplitr [B3]
    · iapply (own_landing .xr d); iframe Cx Kxr
    iexact B3
  isplitl [Hys Kys B5]
  · isplitr [B5]
    · iapply (own_local .ys d); iframe Hys Kys
    iexact B5
  isplitl [Cy Kyr]
  · isplitl
    · iapply (own_landing .yr d); iframe Cy Kyr
    iempintro
  isplitl [Hco Kco B4]
  · isplitr [B4]
    · iapply (own_local .co d); iframe Hco Kco
    isplitl [B4]; · iexact B4
    iempintro
  isplitl [HO]; · iexact HO
  isplitl [Hci Kci B6 Hyg]
  · isplitr [B6 Hyg]
    · iapply (own_local .ci d); iframe Hci Kci
    isplitl [B6]; · iexact B6
    iexact Hyg
  isplitl [Hcy Kcy B7]
  · isplitr [B7]
    · iapply (own_local .cy d); iframe Hcy Kcy
    isplitl [B7]; · iexact B7
    iempintro
  isplitl [HY]; · iexact HY
  isplitl [HG]; · iexact HG
  isplitl [HX Hxr]
  · iapply (get_x d); isplitl [Hxr]; · iexact Hxr
    iexact HX
  isplitl [HZ Hyr]
  · iapply (get_y d); isplitl [Hyr]; · iexact Hyr
    iexact HZ
  iexact HW

/-- What is held when the steps are over. -/
theorem leave (d : Dev nD) : Inv P Gm d St.done ⊢ iprop((bigSep Finset.univ fun f => Own f d 18 18) ∗ Scr d ∗ (B d main_v1 ↦{fullShare} P d)
    ∗ (OutD P Gm d 18 ∗ OthD P Gm d 18) ∗ whole d main_v3_1 ∗ Gam Gm d ∗ ∃ W, owes (d : Thread nD τ) 0 W) := by
  unfold Inv St.done Scr Owes
  dsimp only
  rw [big_fam, src_whole, owe_done]
  simp only [sB, lB, xsB, xrB, rsB, ysB, yiB, ybB, ygB, ring_whole]
  iintro ⟨⟨O0, B0⟩, ⟨O1, B1⟩, HP, ⟨Oxs, B2⟩, ⟨Oxr, B3⟩, ⟨Oys, B5⟩, ⟨Oyr, -⟩, ⟨Oco, B4, HO⟩, -, ⟨Oci, B6, Hyg⟩, ⟨Ocy, B7, HY⟩, -, HG, -, -, HW⟩
  iframe O0 O1 Oxs Oxr Oys Oyr Oco Oci Ocy B0 B1 B2 B3 B4 B5 B6 B7 HP HO HY Hyg HG HW

/-- What the body ends with. -/
def End (d : Dev nD) : sProp 𝕄 :=
  iprop((semVal (barCell d) 0 ∗ bigSep Finset.univ fun f => Cls f d) ∗ Scr d ∗ (B d main_v1 ↦{fullShare} P d) ∗ Done P Gm d ∗ whole d main_v3_1
    ∗ Gam Gm d ∗ ∃ W, owes (d : Thread nD τ) 0 W)

/-- Every counter taken back, and the result put together. -/
theorem finish (K : GSem nD τ sig → ℕ) (d : Dev nD) :
    iprop(ctx P Gm K ∗ atPos ER (barCell d) 1 ∅ 0 ∗ Rest d ∗ Inv P Gm d St.done) ⊢ (iprop(|={Set.univ}=> End P Gm d) : sProp 𝕄) := by
  have hk : ∀ f ∈ (Finset.univ : Finset Fam), iprop(invs P Gm K ∗ Own f d 18 18) ⊢ (iprop(|={Set.univ}=> Cls f d) : sProp 𝕄) :=
    fun f _ => own_close P Gm K f d
  unfold ctx End
  iintro ⟨⟨#HI, -⟩, Hb, HR, H⟩
  ihave H := (leave P Gm d) $$ H
  icases H with ⟨HO, HS, HP, ⟨H1, H2⟩, Hyg, HG, HW⟩
  ihave HD := (res_join P Gm d) $$ [H1 H2 HR]
  · iframe H1 H2 HR
  ihave HO := (bigSep_with_persistent hk) $$ [HO]
  · isplitr; · iexact HI
    iexact HO
  imod (bigSep_fupd _ _) $$ HO with HO
  imod (cell_close ER (talkRd P Gm) (κ := K (barCell d)) (Set.mem_univ _) id (R := 1) (fun r hr => duties_bar_after P Gm d r hr)) $$ [Hb] with Hb
  · isplitr; · iapply (inv_bar P Gm K d); iexact HI
    iexact Hb
  imodintro
  iframe Hb HO HS HP HD Hyg HG HW

/-- The body on a device. -/
theorem body_run (K : GSem nD τ sig → ℕ) (d : Dev nD) :
    iprop(ctx P Gm K ∗ Start d ∗ Scr d ∗ (B d main_v1 ↦{fullShare} P d) ∗ whole d main_v3_0 ∗ whole d main_v3_1 ∗ Gam Gm d
        ∗ ∃ W, owes (d : Thread nD τ) (O₀ d) W)
      ⊢ WP d body (fun _ => End P Gm d) := by
  have hx := fun d : Dev nD => Entails.of_eq (ring_whole (F := F) (ℓ := B d cc0_scratch3) (fun j => (xrV j).view.set) 0).symm
  have hy := fun d : Dev nD => Entails.of_eq (ring_whole (F := F) (ℓ := B d main_v3_1) (fun j => (ygV j).view.set) 0).symm
  unfold body Start Scr
  simp only [Prog.lift, Prog.bind_op, Prog.bind_ret, Prog.pure_eq_ret, semSignalWord, semWaitWord, wp_deviceId, Prog.bind_assoc, dev1_eq, dev2_eq]
  iintro ⟨#Hctx, ⟨⟨Hb, Hc⟩, ⟨Hdx, Hrx⟩, ⟨Hdy, Hry⟩, HT, HK, Cx, Cy⟩, ⟨B0, B1, B2, B3, B4, B5, B6, B7⟩, HP, ⟨%f, HV⟩, Hyg, HG, %W, HW⟩
  -- the own landing slots and rows, for the peers
  ihave HV := (res_split d f) $$ HV
  icases HV with ⟨HO, HY, HR⟩
  ihave HK := (Entails.of_eq (big_fam fun f => Opn f d)) $$ HK
  icases HK with ⟨Kxs, Kxr, Kys, Kyr, K0, K1, Kco, Kci, Kcy⟩
  ihave Kxr := (opn_reached .xr d) $$ Kxr
  icases Kxr with ⟨Rx, Kxr⟩
  ihave Kyr := (opn_reached .yr d) $$ Kyr
  icases Kyr with ⟨Ry, Kyr⟩
  ihave B3 := (hx d) $$ B3
  ihave B3 := (xr_lend d) $$ B3
  icases B3 with ⟨Lx, B3⟩
  ihave Hyg := (hy d) $$ Hyg
  ihave Hyg := (yg_lend d) $$ Hyg
  icases Hyg with ⟨Ly, Hyg⟩
  -- the two signals
  iapply (Rounds.wp_signal 𝒱₀ ER (talkRd P Gm) (d : Thread nD τ) none (dst := (px d : Thread nD τ)) (sem := barS) (r := 0) (d := true)
    (κ := K (barCell (px d))) (by rw [duties_bar]; decide) (amount_bar P Gm (px d) true) () (owe d 0 0 + tallyAt (barCell (py d)) () 1) rfl)
    $$ [HW Hdx Hrx Rx Lx]
  · isplitr; · iapply (inv_bar P Gm K (px d)); unfold ctx; icases Hctx with ⟨HI, -⟩; iexact HI
    isplitl [HW]; · iexact HW
    isplitl [Hdx]; · iexact Hdx
    isplitr [Hrx]
    · iapply (Entails.of_eq (payload_barX P Gm (px d)).symm); iapply (give_x d); isplitl [Rx]; · iexact Rx
      iexact Lx
    iexact Hrx
  iintro HW
  iapply (Rounds.wp_signal 𝒱₀ ER (talkRd P Gm) (d : Thread nD τ) none (dst := (py d : Thread nD τ)) (sem := barS) (r := 0) (d := false)
    (κ := K (barCell (py d))) (by rw [duties_bar]; decide) (amount_bar P Gm (py d) false) () (owe d 0 0) rfl)
    $$ [HW Hdy Hry Ry Ly]
  · isplitr; · iapply (inv_bar P Gm K (py d)); unfold ctx; icases Hctx with ⟨HI, -⟩; iexact HI
    isplitl [HW]; · iexact HW
    isplitl [Hdy]; · iexact Hdy
    isplitr [Hry]
    · iapply (Entails.of_eq (payload_barY P Gm (py d)).symm); iapply (give_y d); isplitl [Ry]; · iexact Ry
      iexact Ly
    iexact Hry
  iintro HW
  -- the wait for both
  iapply (Rounds.wp_wait_rest_token 𝒱₀ ER (talkRd P Gm) (d : Thread nD τ) none (κ := K (barCell d)) (wpE_semWait_eq 𝒱₀ (d : Thread nD τ) none Set.univ)
    (Set.mem_univ _) () (O := owe d 0 0) (W := W) (R := 0) (m := 0) (T := ∅) ((Nat.zero_add 2).trans (expect_bar P Gm d).symm)) $$ [HW Hb Hc]
  · unfold ctx
    icases Hctx with ⟨HI, Hlev⟩
    isplitr; · iapply (inv_bar P Gm K d); iexact HI
    isplitl [Hc]; · iexact Hc
    isplitl [HW]; · iexact HW
    isplitr
    · iapply (mayWait d (.reg barS) 0 0 1 (le_refl _) (by decide) (by decide)); iexact Hlev
    iexact Hb
  iintro ⟨HW, Hb, -, Hpay⟩
  ihave Hpay := (Entails.of_eq (rest_bar P Gm d)) $$ Hpay
  icases Hpay with ⟨HX, HZ⟩
  -- the steps
  ihave HK := (Entails.of_eq (big_fam fun f => Opn f d).symm) $$ [Kxs Kxr Kys Kyr K0 K1 Kco Kci Kcy]
  · iframe Kxs Kxr Kys Kyr K0 K1 Kco Kci Kcy
  ihave HI := (enter P Gm d) $$ [HT HK Cx Cy B0 B1 B2 B3 B4 B5 B6 B7 HP HO HY Hyg HG HX HZ HW]
  · unfold Owes
    isplitl [HT HK Cx Cy]
    · iframe HT HK Cx Cy
    iframe B0 B1 B2 B3 B4 B5 B6 B7 HP HO HY Hyg HX HZ HG
    iexists _
    iexact HW
  iapply (wp_fupd frame (wpE (defs₀ (F := F)) 𝒱₀ (d : Thread nD τ) none) Set.univ)
  ihave HS := (steps_run P Gm K d) $$ [HI]
  · isplitr; · iexact Hctx
    iexact HI
  iapply (wp_wand frame (wpE (defs₀ (F := F)) 𝒱₀ (d : Thread nD τ) none) Set.univ) $$ HS
  iintro %_ HI
  iapply (finish P Gm K d)
  isplitr; · iexact Hctx
  iframe Hb HR HI

end Cert.KernelIdeal.Run
-- ==== Proof.Tokens.lean ====
/- The launch's tokens and credits, dealt to the devices that pay and to the devices that are paid. -/
module

public import proofs.«01_k».proof.Proof.Body

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Cells apart -/

theorem cell_inj {d e : Dev nD} {f g : Fam} {i j : ℕ} (h : cell d f i = cell e g j) : d = e ∧ f = g ∧ i % f.w = j % g.w := by
  have hs : f.sem i = g.sem j := by
    have h2 : (SemLoc.dma (f.sem i) : SemLoc sig) = .dma (g.sem j) := congrArg Prod.snd h
    injection h2
  have hd := (dec_sem f i).symm.trans ((congrArg (fun s : DmaSem sig => dec s.val) hs).trans (dec_sem g j))
  have hd := Option.some.inj hd
  exact ⟨congrArg (fun g : GSem nD τ sig => g.1.1) h, congrArg Prod.fst hd, congrArg Prod.snd hd⟩

theorem bar_inj {d e : Dev nD} (h : barCell d = barCell e) : d = e := congrArg (fun g : GSem nD τ sig => g.1.1) h
theorem cell_ne_bar (d e : Dev nD) (f : Fam) (i : ℕ) : cell d f i ≠ barCell e := fun h => by
  have h2 : (SemLoc.dma (f.sem i) : SemLoc sig) = .reg barS := congrArg Prod.snd h
  exact absurd h2 (by simp)

theorem disjoint_cells : Disjoint (barCells : Finset (GSem nD τ sig)) scCells := by
  unfold barCells scCells
  rw [Finset.disjoint_left]
  rintro g h₁ h₂
  obtain ⟨c, -, rfl⟩ := Finset.mem_map.mp h₁
  obtain ⟨ck, -, h⟩ := Finset.mem_map.mp h₂
  exact cell_ne_bar ck.1 c ck.2.1 ck.2.2.val h

/-! ## The tokens -/

/-- The duties of a device's cells: one for each segment of each kind, two on the barrier. -/
abbrev Duty : Type := (Fam × Fin 18) ⊕ Bool
def dutyOf (d : Dev nD) (x : Duty) : GSem nD τ sig × ℕ × Bool := match x with
  | .inl (f, i) => (cell d f i, i.val / f.w, true)
  | .inr b => (barCell d, 0, b)
theorem dutyOf_dev (d : Dev nD) (x : Duty) : (dutyOf d x).1.1.1 = d := by rcases x with ⟨f, i⟩ | b <;> rfl
theorem dutyOf_inj (d : Dev nD) {x y : Duty} (h : dutyOf d x = dutyOf d y) : x = y := by
  rcases x with ⟨f, i⟩ | b <;> rcases y with ⟨g, j⟩ | b'
  · obtain ⟨-, rfl, hm⟩ := cell_inj (congrArg Prod.fst h)
    have hq : i.val / f.w = j.val / f.w := congrArg (fun t : GSem nD τ sig × ℕ × Bool => t.2.1) h
    have : i.val = j.val := by rw [← round_add f i.val, ← round_add f j.val, hm, hq]
    rw [Fin.ext this]
  · exact absurd (congrArg Prod.fst h) (cell_ne_bar _ _ _ _)
  · exact absurd (congrArg Prod.fst h).symm (cell_ne_bar _ _ _ _)
  · exact congrArg Sum.inr (congrArg (fun t : GSem nD τ sig × ℕ × Bool => t.2.2) h)
def dutyEmb : Dev nD × Duty ↪ GSem nD τ sig × ℕ × Bool := ⟨fun p => dutyOf p.1 p.2, fun a b h => by
  have hd : a.1 = b.1 := by rw [← dutyOf_dev a.1 a.2, ← dutyOf_dev b.1 b.2]; exact congrArg (fun t : GSem nD τ sig × ℕ × Bool => t.1.1.1) h
  obtain ⟨a, x⟩ := a; obtain ⟨b, y⟩ := b
  obtain rfl : a = b := hd
  exact congrArg _ (dutyOf_inj a h)⟩
/-- Every duty of the launch. -/
def talkToks : Finset (GSem nD τ sig × ℕ × Bool) := Finset.univ.map dutyEmb

theorem big_fin18 (D : Fin 18 → sProp 𝕄) (Ψ : ℕ → sProp 𝕄) (h : ∀ j : Fin 18, Ψ j = D j) :
    bigSep Finset.univ D = bigSep (Finset.Ico 0 18) Ψ := by
  rw [← Finset.range_eq_Ico]
  exact Ring.bigSep_fin_eq_range 18 D Ψ fun t ht => h ⟨t, ht⟩
theorem big_bool (Φ : Bool → sProp 𝕄) : bigSep Finset.univ Φ = iprop(Φ true ∗ Φ false) :=
  bigSep_univ_eq_bigSepL [true, false] (by decide) (by decide) Φ

/-- All tokens, by the device whose cell they are for. -/
theorem toks_eq : bigSep talkToks (fun x => (dutyTok ER x.1 x.2.1 x.2.2 : sProp 𝕄))
    = bigSep Finset.univ fun d : Dev nD => iprop((bigSep Finset.univ fun f => Tok f d)
        ∗ dutyTok ER (barCell d) 0 true ∗ dutyTok ER (barCell d) 0 false) := by
  unfold talkToks
  rw [bigSep_map, bigSep_univ_prod]
  refine bigSep_congr fun d _ => ?_
  rw [bigSep_univ_sum, bigSep_univ_prod, big_bool]
  refine congrArg (fun X : sProp 𝕄 => iprop(X ∗ dutyTok ER (barCell d) 0 true ∗ dutyTok ER (barCell d) 0 false)) ?_
  exact bigSep_congr fun f _ => big_fin18 _ _ fun j => rfl

theorem dest_dest (f : Fam) (d : Dev nD) : dest f (dest f d) = d := match f with
  | .xr => px_px d
  | .yr => py_py d
  | .xs | .ys | .cp0 | .cp1 | .co | .ci | .cy => rfl
/-- The device whose cells a device pays on, for a kind. -/
def destE (f : Fam) : Dev nD ≃ Dev nD := ⟨dest f, dest f, dest_dest f, dest_dest f⟩
def pxE : Dev nD ≃ Dev nD := ⟨px, px, px_px, px_px⟩
def pyE : Dev nD ≃ Dev nD := ⟨py, py, py_py, py_py⟩

/-- Each token handed to the device that pays it. -/
theorem toks_around : (bigSep Finset.univ fun d : Dev nD => iprop((bigSep Finset.univ fun f => Tok f d)
        ∗ dutyTok ER (barCell d) 0 true ∗ dutyTok ER (barCell d) 0 false))
    = (bigSep Finset.univ fun d : Dev nD => iprop((bigSep Finset.univ fun f => Tok f (dest f d))
        ∗ dutyTok ER (barCell (px d)) 0 true ∗ dutyTok ER (barCell (py d)) 0 false) : sProp 𝕄) := by
  have h : (bigSep Finset.univ fun d : Dev nD => bigSep Finset.univ fun f => (Tok f d : sProp 𝕄))
      = bigSep Finset.univ fun d : Dev nD => bigSep Finset.univ fun f => Tok f (dest f d) := by
    rw [Pipeline.bigSep_univ_comm, Pipeline.bigSep_univ_comm fun (d : Dev nD) f => (Tok f (dest f d) : sProp 𝕄)]
    exact bigSep_congr fun f _ => bigSep_univ_equiv (destE f) fun d => Tok f d
  rw [bigSep_sep', bigSep_sep', bigSep_sep', bigSep_sep', h, bigSep_univ_equiv pxE fun d => dutyTok ER (barCell d) 0 true,
    bigSep_univ_equiv pyE fun d => dutyTok ER (barCell d) 0 false]
  rfl

/-! ## The credits -/

theorem tally_cell (d e : Dev nD) (f g : Fam) (hf : f.w = 18) (hg : g.w = 18) (i j n : ℕ) (hi : i < 18) (hj : j < 18) :
    (tallyAt (cell d f i) () n : CellTallies nD τ sig Unit) (cell e g j) () = if i = j then if d = e ∧ f = g then n else 0 else 0 := by
  rw [tallyAt_apply]
  by_cases h : cell e g j = cell d f i
  · obtain ⟨h1, h2, h3⟩ := cell_inj h
    rw [hf, hg, Nat.mod_eq_of_lt hi, Nat.mod_eq_of_lt hj] at h3
    rw [if_pos ⟨h, rfl⟩, if_pos h3.symm, if_pos ⟨h1.symm, h2.symm⟩]
  · rw [if_neg fun h' => h h'.1]
    split
    · rename_i h1
      rw [if_neg]
      rintro ⟨rfl, rfl⟩
      subst h1
      exact h rfl
    · rfl

/-- What a run of dues on the cells of a kind comes to at one cell. -/
theorem sum_tally (d e : Dev nD) (f g : Fam) (hf : f.w = 18) (hg : g.w = 18) (j : ℕ) (hj : j < 18) :
    (∑ i ∈ Finset.Ico 0 18, (tallyAt (cell d f i) () (f.amt i) : CellTallies nD τ sig Unit)) (cell e g j) ()
      = if d = e ∧ f = g then f.amt j else 0 := by
  rw [Finset.sum_apply, Finsupp.finset_sum_apply,
    Finset.sum_congr rfl fun i hi => tally_cell d e f g hf hg i j (f.amt i) (Finset.mem_Ico.mp hi).2 hj,
    Finset.sum_ite_eq' (Finset.Ico 0 18) j fun i => if d = e ∧ f = g then f.amt i else 0,
    if_pos (Finset.mem_Ico.mpr ⟨Nat.zero_le j, hj⟩)]
theorem sum_tally_bar (d e : Dev nD) (f : Fam) :
    (∑ i ∈ Finset.Ico 0 18, (tallyAt (cell d f i) () (f.amt i) : CellTallies nD τ sig Unit)) (barCell e) () = 0 := by
  rw [Finset.sum_apply, Finsupp.finset_sum_apply]
  exact Finset.sum_eq_zero fun i _ => by rw [tallyAt_apply, if_neg fun h => cell_ne_bar _ _ _ _ h.1.symm]
theorem tally_bar (d e : Dev nD) (n : ℕ) : (tallyAt (barCell d) () n : CellTallies nD τ sig Unit) (barCell e) () = if d = e then n else 0 := by
  rw [tallyAt_apply]
  by_cases h : d = e
  · subst h; rw [if_pos ⟨rfl, rfl⟩, if_pos rfl]
  · rw [if_neg fun h' => h (bar_inj h'.1).symm, if_neg h]
theorem tally_bar_cell (d e : Dev nD) (f : Fam) (i n : ℕ) : (tallyAt (barCell d) () n : CellTallies nD τ sig Unit) (cell e f i) () = 0 := by
  rw [tallyAt_apply, if_neg fun h => cell_ne_bar _ _ _ _ h.1]

/-- What device `d` owes a landing cell of the first exchange. -/
theorem owed_xr (d e : Dev nD) (j : ℕ) (hj : j < 18) : O₀ d (cell e .xr j) () = if px d = e then Fam.xr.amt j else 0 := by
  unfold O₀ owe
  simp only [Pi.add_apply, Finsupp.add_apply, tally_bar_cell, sum_tally (px d) e .xr .xr rfl rfl j hj, sum_tally (py d) e .yr .xr rfl rfl j hj,
    add_zero, and_true, reduceCtorEq, and_false, if_false]
theorem owed_yr (d e : Dev nD) (j : ℕ) (hj : j < 18) : O₀ d (cell e .yr j) () = if py d = e then Fam.yr.amt j else 0 := by
  unfold O₀ owe
  simp only [Pi.add_apply, Finsupp.add_apply, tally_bar_cell, sum_tally (px d) e .xr .yr rfl rfl j hj, sum_tally (py d) e .yr .yr rfl rfl j hj,
    add_zero, zero_add, and_true, reduceCtorEq, and_false, if_false]
theorem owed_bar (d e : Dev nD) : O₀ d (barCell e) () = (if py d = e then 1 else 0) + if px d = e then 1 else 0 := by
  unfold O₀ owe
  simp only [Pi.add_apply, Finsupp.add_apply, tally_bar, sum_tally_bar, zero_add]

theorem sum_peer (p : Dev nD → Dev nD) (hp : ∀ d, p (p d) = d) (e : Dev nD) (n : ℕ) : (∑ d : Dev nD, if p d = e then n else 0) = n := by
  rw [Finset.sum_congr rfl fun d _ => (if_congr (show p d = e ↔ d = p e from ⟨fun h => by rw [← h, hp], fun h => by rw [h, hp]⟩) rfl rfl),
    Finset.sum_ite_eq' Finset.univ (p e) fun _ => n, if_pos (Finset.mem_univ _)]

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_xr (e : Dev nD) (j : ℕ) (hj : j < 18) : tallyOn (cell e .xr j) (launchCredit (Pipeline.owing O₀) 0 (cell e .xr j))
    = (tallyAt (cell e .xr j) () (Fam.xr.amt j) : CellTallies nD τ sig Unit) :=
  launch_at _ _ (by rw [Finset.sum_congr rfl fun d _ => owed_xr d e j hj, sum_peer px px_px])
theorem launch_yr (e : Dev nD) (j : ℕ) (hj : j < 18) : tallyOn (cell e .yr j) (launchCredit (Pipeline.owing O₀) 0 (cell e .yr j))
    = (tallyAt (cell e .yr j) () (Fam.yr.amt j) : CellTallies nD τ sig Unit) :=
  launch_at _ _ (by rw [Finset.sum_congr rfl fun d _ => owed_yr d e j hj, sum_peer py py_py])
theorem launch_bar (e : Dev nD) : tallyOn (barCell e) (launchCredit (Pipeline.owing O₀) 0 (barCell e))
    = (tallyAt (barCell e) () 2 : CellTallies nD τ sig Unit) :=
  launch_at _ _ (by rw [Finset.sum_congr rfl fun d _ => owed_bar d e, Finset.sum_add_distrib, sum_peer py py_py, sum_peer px px_px])

/-- The landing semaphores of the two exchanges. -/
def landEmb : Bool × Fin 18 ↪ SemLoc sig :=
  ⟨fun p => .dma ((if p.1 then Fam.xr else Fam.yr).sem p.2), by decide⟩

/-- What a device may expect at launch: both signals and every landing. -/
theorem creds (d : Dev nD) : (Pipeline.launchCred O₀ d : sProp 𝕄) ⊢ iprop(cred (tallyAt (barCell d) () 2) ∗ Crd .xr d ∗ Crd .yr d) := by
  unfold Pipeline.launchCred
  rw [bigSep_univ_at _ (SemLoc.reg barS), launch_bar]
  refine sep_mono_right ?_
  refine BIBase.Entails.trans (bigSep_subset (show Finset.univ.map landEmb ⊆ Finset.univ.erase (SemLoc.reg barS) from fun s hs => by
    obtain ⟨p, -, rfl⟩ := Finset.mem_map.mp hs
    exact Finset.mem_erase.mpr ⟨by simp [landEmb], Finset.mem_univ _⟩)) ?_
  rw [bigSep_map, bigSep_univ_prod, big_bool]
  refine Entails.of_eq (congrArg₂ (fun X Y : sProp 𝕄 => iprop(X ∗ Y)) ?_ ?_)
  · exact (big_fin18 _ (fun i => cred (tallyOn (cell d .xr i) (launchCredit (Pipeline.owing O₀) 0 (cell d .xr i)))) (fun j => rfl)).trans
      (bigSep_congr fun i hi => congrArg (fun x => (cred x : sProp 𝕄)) (launch_xr d i (Finset.mem_Ico.mp hi).2))
  · exact (big_fin18 _ (fun i => cred (tallyOn (cell d .yr i) (launchCredit (Pipeline.owing O₀) 0 (cell d .yr i)))) (fun j => rfl)).trans
      (bigSep_congr fun i hi => congrArg (fun x => (cred x : sProp 𝕄)) (launch_yr d i (Finset.mem_Ico.mp hi).2))

end Cert.KernelIdeal.Run
-- ==== Proof.Launch.lean ====
/- The program as a whole: the host operations, the kernel's region, what the launch deals out, and what every execution
   ends with. -/
module

public import proofs.«01_k».proof.Proof.Tokens
public import proofs.«01_k».proof.Proof.Gen.KernelIdeal.Frame

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the region is entered with -/

/-- A device's buffers at launch and after the host operations. -/
abbrev V₀ (d : Dev nD) : Valuation τ sig (Elt F) := fun b => m (d, b)
abbrev V₁ (d : Dev nD) : Valuation τ sig (Elt F) := StableHlo.after hostOps0 (V₀ m d)
/-- The partial sums and gamma, as the kernel finds them. -/
abbrev Pm (d : Dev nD) : main_v1.ty.Contents (Elt F) := V m d main_v1
abbrev Gmm (d : Dev nD) : cc0_stg0_0.ty.Contents (Elt F) := iblk m d 0 t0_0

/-- The buffers the kernel works on. -/
def Bufs (d : Dev nD) : sProp 𝕄 := iprop((B d main_v1 ↦{fullShare} Pm m d) ∗ whole d main_v3_0 ∗ whole d main_v3_1)
/-- What comes into the kernel beside the scratch buffers, and what leaves it. -/
def Xk (d : Dev nD) : sProp 𝕄 := iprop((∃ K, ctx (Pm m) (Gmm m) K) ∗ Start d ∗ Bufs m d)
def Yk (d : Dev nD) : sProp 𝕄 :=
  iprop(semVal (barCell d) 0 ∗ (B d main_v1 ↦{fullShare} Pm m d) ∗ Done (Pm m) (Gmm m) d ∗ whole d main_v3_1)
def Φ₀ (d : Dev nD) : sProp 𝕄 := iprop(Xk m d ∗ Scr d ∗ ∃ r, prngReg d r)
def Φ₁ (d : Dev nD) : sProp 𝕄 := iprop(Yk m d ∗ (bigSep Finset.univ fun f => Cls f d) ∗ Scr d ∗ ∃ r, prngReg d r)

/-- The region's proof data: one point, entered owing the peers and left owing nothing. -/
def dat0 (d : Dev nD) : Dat τ (Elt F) Unit ℕ UU ℕ cfg0 d where
  A w := V m d (Pipeline.arrRef spec0 w)
  after w := match w with | ⟨0, _⟩ => fun t => iblk m d 0 t
  Φ t := if t.val = 0 then Φ₀ m d else Φ₁ m d
  q _ := fullShare
  owed t := if t.val = 0 then O₀ d else 0

abbrev adm : (p : Fin 1) → (pcfgs (F := F) p).Adm := fun p => (cfgs p).toPCfg_adm
def pdats : (p : Fin 1) → (d : Dev nD) → Dat τ (Elt F) Unit ℕ UU ℕ (Pipeline.pin (pcfgs (F := F)) adm p) d
  | 0 => dat0 m

theorem last_val : (Fin.last cfg0.N).val ≠ 0 := by rw [Fin.val_last, show cfg0.N = 1 from N_0]; decide
theorem Φ_first (d : Dev nD) : (dat0 m d).Φ 0 = Φ₀ m d := by
  show (if (0 : Fin (cfg0.N + 1)).val = 0 then Φ₀ m d else Φ₁ m d) = _; exact if_pos rfl
theorem Φ_last (d : Dev nD) : (dat0 m d).Φ (Fin.last cfg0.N) = Φ₁ m d := by
  show (if (Fin.last cfg0.N).val = 0 then Φ₀ m d else Φ₁ m d) = _; exact if_neg last_val
theorem owed_first (d : Dev nD) : (dat0 m d).owed 0 = O₀ d := by
  show (if (0 : Fin (cfg0.N + 1)).val = 0 then O₀ d else 0) = _; exact if_pos rfl
theorem owed_last (d : Dev nD) : (dat0 m d).owed (Fin.last cfg0.N) = 0 := by
  show (if (Fin.last cfg0.N).val = 0 then O₀ d else 0) = _; exact if_neg last_val
theorem at_first : (t0_0.castSucc : Fin (cfg0.N + 1)) = 0 := by decide
theorem at_last : (t0_0.succ : Fin (cfg0.N + 1)) = Fin.last cfg0.N := by decide

theorem owesAt_in {d : Dev nD} (dat : Dat τ (Elt F) Unit ℕ UU ℕ cfg0 d) (t : Fin (cfg0.N + 1)) (O : CellTallies nD τ sig Unit)
    (h : dat.owed t = O) (hr : dat.recorded t = Set.univ) : (iprop(∃ W, owes (d : Thread nD τ) O W) : sProp 𝕄) ⊢ dat.owesAt () t := by
  unfold Dat.owesAt Pipeline.owesWithin Dat.bound; rw [h, hr]
  iintro ⟨%W, H⟩; iexists W; isplitr; · ipureintro; exact fun _ _ => Or.inl trivial
  iexact H
theorem owesAt_out {d : Dev nD} (dat : Dat τ (Elt F) Unit ℕ UU ℕ cfg0 d) (t : Fin (cfg0.N + 1)) (O : CellTallies nD τ sig Unit)
    (h : dat.owed t = O) : (dat.owesAt () t : sProp 𝕄) ⊢ iprop(∃ W, owes (d : Thread nD τ) O W) := by
  unfold Dat.owesAt Pipeline.owesWithin; rw [h]
  iintro ⟨%W, -, H⟩; iexists W; iexact H

/-- Gamma's staging buffer holds its block when the body runs. -/
theorem gamma_in (d : Dev nD) (t : Fin cfg0.N) (x) : (dat0 m d).before 0 t x = iblk m d 0 t :=
  ((dat0 m d).before_in_eq_fetched 0 rfl (fun _ => rfl) (fun _ _ _ => rfl) (fun t => rfl) t x).trans rfl

theorem called (t : Fin cfg0.N) : defs₀ (F := F) .tc cfg0.body (cfg0.bodyArgs t (cfg0.slots t)) = body :=
  (show defs₀ (F := F) .tc cfg0.body (cfg0.bodyArgs t (cfg0.slots t)) = bodyAt0 t from rfl).trans (body_eq t)

theorem gam_eq (d : Dev nD) : (Gam (Gmm m) d : sProp 𝕄) = (d : Thread nD τ).loc cc0_stg0_0 ↦{fullShare} iblk m d 0 t0_0 := rfl

/-- The library's obligation for the body. -/
theorem obligation (d : Dev nD) : BodyObligation (dat0 m d) (defs₀ (F := F)) 𝒱₀ () Set.univ := fun t => by
  obtain rfl := fin_N0 t
  rw [bigSep_W0, bigSep_W0, at_first, at_last, Φ_first, Φ_last]
  rw [called]
  simp only [owns_whole_eq]
  unfold Φ₀ Φ₁ Xk Yk Bufs
  iintro ⟨⟨⟨⟨%K, HC⟩, HT, HP, H0, H1⟩, HS, Hr⟩, HO, ⟨%x, %g, %hg, HG⟩⟩
  rw [gamma_in] at hg
  subst hg
  ihave HG := (Entails.of_eq (gam_eq m d).symm) $$ HG
  ihave HO := (owesAt_out (dat0 m d) 0 (O₀ d) (owed_first m d)) $$ HO
  ihave H := (body_run (Pm m) (Gmm m) K d) $$ [HC HT HS HP H0 H1 HG HO]
  · iframe HC HT HS HP H0 H1 HG HO
  iapply (wp_wand frame (wpE (defs₀ (F := F)) 𝒱₀ (d : Thread nD τ) none) Set.univ) $$ H
  unfold End
  iintro %_ ⟨⟨Hb, HC⟩, HS, HP, HD, H1, HG, HO⟩
  isplitr [HO HG]
  · iframe Hb HP HD H1 HC HS Hr
  isplitl [HO]
  · iapply (owesAt_in (dat0 m d) (Fin.last cfg0.N) 0 (owed_last m d) rfl); iexact HO
  iexists _
  isplitr; swap
  · iapply (Entails.of_eq (gam_eq m d)) $$ HG
  ipureintro; rfl

/-! ## The region as a segment -/

/-- The buffers a device keeps out of the kernel. -/
abbrev Sr : Finset (DevRef τ sig) := {Proc.devRef .tc main_arg0, Proc.devRef .tc main_arg1}

theorem held_args (d : Dev nD) (W : Valuation τ sig (Elt F)) : (StableHlo.held (d : Thread nD τ) Sr W : sProp 𝕄)
    = iprop((B d main_arg0 ↦{fullShare} W main_arg0) ∗ (B d main_arg1 ↦{fullShare} W main_arg1)) := by
  unfold StableHlo.held
  rw [bigSep_eq_bigSepL_of_eq [Proc.devRef .tc main_arg0, Proc.devRef .tc main_arg1] (by decide) (by decide)]
  rfl
theorem held_win (d : Dev nD) (W : Valuation τ sig (Elt F)) :
    (StableHlo.held (d : Thread nD τ) (Pipeline.arrRefs (τ := τ) (pcfgs (F := F) 0).spec) W : sProp 𝕄) = (B d main_v2 ↦{fullShare} W main_v2) := by
  unfold StableHlo.held
  rw [show Pipeline.arrRefs (τ := τ) (pcfgs (F := F) 0).spec = {Proc.devRef .tc main_v2} from
    (by decide : Pipeline.arrRefs (τ := τ) spec0 = {Proc.devRef .tc main_v2}), bigSep_singleton]
theorem held_all (d : Dev nD) (W : Valuation τ sig (Elt F)) : (StableHlo.held (d : Thread nD τ) (Pipeline.ucRefs τ sig) W : sProp 𝕄)
    = iprop((B d main_arg0 ↦{fullShare} W main_arg0) ∗ (B d main_arg1 ↦{fullShare} W main_arg1) ∗ (B d main_v1 ↦{fullShare} W main_v1)
      ∗ (B d main_v2 ↦{fullShare} W main_v2) ∗ (B d main_v3_0 ↦{fullShare} W main_v3_0) ∗ (B d main_v3_1 ↦{fullShare} W main_v3_1)) := by
  unfold StableHlo.held
  rw [bigSep_eq_bigSepL_of_eq [Proc.devRef .tc main_arg0, Proc.devRef .tc main_arg1, Proc.devRef .tc main_v1, Proc.devRef .tc main_v2,
    Proc.devRef .tc main_v3_0, Proc.devRef .tc main_v3_1] (by decide) (by decide)]
  rfl

/-- What a device gets of the protocol at launch, its scoped cells still closed: `Start`, with rights to open. -/
def Raw (d : Dev nD) : sProp 𝕄 :=
  iprop((atPos ER (barCell d) 0 ∅ 0 ∗ cred (tallyAt (barCell d) () 2))
    ∗ (dutyTok ER (barCell (px d)) 0 true ∗ reached ER (barCell (px d)) 0) ∗ (dutyTok ER (barCell (py d)) 0 false ∗ reached ER (barCell (py d)) 0)
    ∗ (bigSep Finset.univ fun f => Tok f (dest f d)) ∗ (bigSep Finset.univ fun k : Kix => openTok ER ((d : Thread nD τ), osem k)) ∗ Crd .xr d ∗ Crd .yr d)
def Ghost (d : Dev nD) : sProp 𝕄 := iprop(∃ K, invs (Pm m) (Gmm m) K ∗ Raw d)
def Tk (d : Dev nD) : sProp 𝕄 := iprop(Ghost m d ∗ Bufs m d)

theorem big_kinds (Φ : (k : Kix) → sProp 𝕄) : bigSep Finset.univ Φ = bigSep Finset.univ fun f : Fam => bigSep Finset.univ fun j : Fin f.w => Φ ⟨f, j⟩ :=
  Pipeline.bigSep_univ_sigma Φ

theorem counters (d : Dev nD) : (Pipeline.ownSems0 (Ix := Unit) (Name := ℕ) (U := UU) (Lvl := ℕ) (Val := Elt F) (τ := τ) osem d : sProp 𝕄)
    = bigSep Finset.univ fun f => Cls f d := by
  unfold Pipeline.ownSems0 Cls
  exact big_kinds fun k => semVal ((d : Thread nD τ), osem k) 0

/-- The scoped cells opened on entry to the region. -/
theorem opening (d : Dev nD) :
    iprop(Tk m d ∗ Pipeline.ownSems0 osem d ∗ levAts L lv) ⊢ (iprop(|={Set.univ}=> Xk m d) : sProp 𝕄) := by
  have hk (K : GSem nD τ sig → ℕ) : ∀ k ∈ (Finset.univ : Finset Kix), iprop(invs (Pm m) (Gmm m) K ∗ openTok ER ((d : Thread nD τ), osem k))
      ⊢ (iprop(cellInv ER (talkRd (Pm m) (Gmm m)) (K ((d : Thread nD τ), osem k)) ((d : Thread nD τ), osem k)
        ∗ openTok ER ((d : Thread nD τ), osem k)) : sProp 𝕄) := fun k _ => by
    iintro ⟨#HI, H⟩
    isplitr; · iapply (inv_cell (Pm m) (Gmm m) K d k.1 k.2.val); iexact HI
    iexact H
  have hO : (bigSep Finset.univ fun k : Kix => iprop(atPos ER ((d : Thread nD τ), osem k) 0 ∅ 0 ∗ reached ER ((d : Thread nD τ), osem k) 0))
      = (bigSep Finset.univ fun f => Opn f d : sProp 𝕄) := big_kinds _
  unfold Tk Ghost Raw Xk Start ctx Pipeline.ownSems0
  iintro ⟨⟨⟨%K, #HI, Hb, Hx, Hy, HT, HO, Cx, Cy⟩, HB⟩, HS, #Hlev⟩
  ihave HO := (bigSep_with_persistent (hk K)) $$ [HO]
  · isplitr; · iexact HI
    iexact HO
  imod (cells_open ER (talkRd (Pm m) (Gmm m)) Finset.univ (fun k : Kix => ((d : Thread nD τ), osem k)) (fun k => K ((d : Thread nD τ), osem k))
    (fun _ _ => Set.mem_univ _)) $$ [HO HS] with HO
  · isplitl [HO]; · iexact HO
    iexact HS
  ihave HO := (Entails.of_eq hO) $$ HO
  imodintro
  isplitr
  · iexists K; iframe HI Hlev
  iframe Hb Hx Hy HT HO Cx Cy HB

theorem entering (d : Dev nD) : iprop(Pipeline.scopedRest (Pipeline.pin (pcfgs (F := F)) adm 0).spec d ∗ (∃ r, prngReg d r)
      ∗ StableHlo.held (d.tc : Thread nD τ) ∅ (V₁ m d) ∗ Xk m d) ⊢ (pdats m 0 d).Φ 0 := by
  rw [show (pdats m 0 d).Φ 0 = Φ₀ m d from Φ_first m d,
    show (Pipeline.scopedRest (Ix := Unit) (Name := ℕ) (U := UU) (Lvl := ℕ) (Val := Elt F) (Pipeline.pin (pcfgs (F := F)) adm 0).spec d : sProp 𝕄) = Scr d
      from scopedRest0_eq d]
  unfold Φ₀
  iintro ⟨HS, Hp, -, HX⟩
  iframe HS Hp HX

theorem leaving (d : Dev nD) : (pdats m 0 d).Φ (Fin.last (Pipeline.pin (pcfgs (F := F)) adm 0).N)
    ⊢ iprop(Pipeline.scopedRest (Pipeline.pin (pcfgs (F := F)) adm 0).spec d ∗ (∃ r, prngReg d r)
      ∗ StableHlo.held (d.tc : Thread nD τ) ∅ (V₁ m d) ∗ Pipeline.ownSems0 osem d ∗ Yk m d) := by
  rw [show (pdats m 0 d).Φ (Fin.last (Pipeline.pin (pcfgs (F := F)) adm 0).N) = Φ₁ m d from Φ_last m d,
    show (Pipeline.scopedRest (Ix := Unit) (Name := ℕ) (U := UU) (Lvl := ℕ) (Val := Elt F) (Pipeline.pin (pcfgs (F := F)) adm 0).spec d : sProp 𝕄) = Scr d
      from scopedRest0_eq d, counters,
    show (StableHlo.held (d.tc : Thread nD τ) ∅ (V₁ m d) : sProp 𝕄) = BI.emp from bigSep_empty]
  unfold Φ₁
  iintro ⟨HY, HC, HS, Hp⟩
  iframe HY HC HS Hp
  iempintro

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Everything owed when the region is entered is above the level of the staging buffers. -/
theorem above (d : Dev nD) (t : Fin (cfg0.N + 1)) (g : GSem nD τ sig) (u : Unit) (h : 0 < (dat0 m d).owed t g u) :
    u ∈ L g ∧ (0 : ℕ) < lv g u := by
  have hb (e : Dev nD) : u ∈ L (barCell e) ∧ (0 : ℕ) < lv (barCell e) u := ⟨by rw [L_tc]; exact Finset.mem_singleton_self _, Nat.one_pos⟩
  have e : (dat0 m d).owed t = if t.val = 0 then O₀ d else 0 := rfl
  rw [e] at h
  split at h
  · unfold O₀ at h
    rw [Pi.add_apply, Finsupp.add_apply] at h
    rcases Nat.add_pos_iff_pos_or_pos.mp h with h | h
    · rw [Pi.add_apply, Finsupp.add_apply] at h
      rcases Nat.add_pos_iff_pos_or_pos.mp h with h | h
      · obtain ⟨i, hi, ⟨-, rfl⟩ | ⟨-, rfl⟩⟩ := owe_pos h <;>
          exact ⟨by rw [L_tc]; exact Finset.mem_singleton_self _, by rw [lv_cell _ _ _ hi]; simp only [Fam.lvl]; omega⟩
      · rw [tally_pos h]; exact hb _
    · rw [tally_pos h]; exact hb _
  · exact absurd h (Nat.lt_irrefl 0)

theorem stage_low : ∀ (w : Fin 1) (s : Fin (spec0 w).nbuf), lvS (.dma ((spec0 w).sem s)) ≤ 0 := by decide

set_option backward.isDefEq.respectTransparency.types false in
/-- The kernel's region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ Sr (Finset.empty_subset _) kit rfl (fun d => (obligation m d).loose)
    (fun _ => 0) O₀ (fun d => (owed_first m d).trans (zero_add _).symm) (owed_last m) (fun _ => rfl)
    (fun d w => by fin_cases w; rfl)
    (V₁ m) (V₁ m) (fun _ _ _ => rfl)
    (Tk m) (Yk m) (Xk m) (Yk m) (opening m) (entering m) (leaving m)
    (fun d => by iintro H; imodintro; iexact H)
    (fun _ => 0)
    ⟨fun d w s => by rw [L_tc]; exact Finset.mem_singleton_self _, fun d w s => stage_low w s, fun d t g u h => above m d t g u h⟩
    (fun _ => iprop(emp))
    (fun d w => by fin_cases w; rfl)
    (fun d w => by fin_cases w; exact Dat.arrAt_in _ _ rfl _)

/-! ## The program as segments -/

/-- What rides beside the buffers up to the region. -/
def R (d : Dev nD) : sProp 𝕄 := iprop(Ghost m d ∗ (∃ r, prngReg d r) ∗ ∃ W, owes (d : Thread nD τ) (O₀ d) W)

/-- The host operations. -/
def host : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (V₀ m) (R m)

abbrev segs : List (Pipeline.Seg (pcfgs (F := F)) adm (pdats m) () defs₀ 𝒱₀ L lv) := [.host (host m), .region (reg m)]

/-- What a device starts and ends with. -/
abbrev T₀ (d : Dev nD) : sProp 𝕄 := iprop(StableHlo.held (d : Thread nD τ) (Pipeline.ucRefs τ sig) (V₀ m d) ∗ R m d)
abbrev Tₙ (d : Dev nD) : sProp 𝕄 :=
  iprop(StableHlo.held (d : Thread nD τ) Sr (V₁ m d) ∗ Done (Pm m) (Gmm m) d ∗ semVal (barCell d) 0)

theorem reg_pre (d : Dev nD) : iprop(StableHlo.held (d : Thread nD τ) (Pipeline.ucRefs τ sig) (V₁ m d) ∗ R m d) ⊢ (reg m).pre d := by
  show _ ⊢ iprop(StableHlo.held (d.tc : Thread nD τ) (Pipeline.arrRefs (τ := τ) (pcfgs (F := F) 0).spec) (V₁ m d) ∗ (∃ r, prngReg d r)
    ∗ (StableHlo.held (d.tc : Thread nD τ) Sr (V₁ m d) ∗ emp) ∗ Tk m d ∗ ∃ Wd, owes (d : Thread nD τ) (0 + O₀ d) Wd)
  rw [held_win, held_args, held_all, zero_add]
  unfold R Tk Bufs whole
  iintro ⟨⟨H0, H1, Hp, Hg, Ho, Hl⟩, HG, Hr, HO⟩
  isplitl [Hg]; · iexact Hg
  isplitl [Hr]; · iexact Hr
  isplitl [H0 H1]
  · isplitl
    · iframe H0 H1
    iempintro
  isplitr [HO]
  · isplitl [HG]; · iexact HG
    isplitl [Hp]; · iexact Hp
    isplitl [Ho]; · iexists _; iexact Ho
    iexists _; iexact Hl
  iexact HO

theorem reg_post (d : Dev nD) : (reg m).post d ⊢ iprop(Tₙ m d ∗ ∃ W, owes (d : Thread nD τ) (0 : CellTallies nD τ sig Unit) W) := by
  show iprop(StableHlo.held (d.tc : Thread nD τ) (Pipeline.arrRefs (τ := τ) (pcfgs (F := F) 0).spec) (V₁ m d) ∗ (∃ r, prngReg d r)
    ∗ (StableHlo.held (d.tc : Thread nD τ) Sr (V₁ m d) ∗ emp) ∗ Yk m d ∗ ∃ Wd, owes (d : Thread nD τ) (0 : CellTallies nD τ sig Unit) Wd) ⊢ _
  unfold Yk
  iintro ⟨-, -, ⟨Hh, -⟩, ⟨Hb, -, HD, -⟩, HO⟩
  iframe Hh Hb HD HO

/-! ## The launch -/

/-- The launch element: the pipeline library's, and the protocol's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A resource kept on one device until it is dealt out. -/
def onDev (e : Dev nD) (X : sProp 𝕄) (d : Dev nD) : sProp 𝕄 := if d = e then X else iprop(emp)
theorem big_onDev (e : Dev nD) (X : sProp 𝕄) : bigSep Finset.univ (onDev e X) = X := by
  have h : ∀ d ∈ Finset.univ.erase e, onDev e X d = (BI.emp : sProp 𝕄) := fun d hd => if_neg (Finset.ne_of_mem_erase hd)
  rw [bigSep_univ_at _ e, bigSep_congr h, BI.bigSep_emp_const, show onDev e X e = X from if_pos rfl]
  exact BI.equiv_iff.mp sep_emp
def G : Dev nD → sProp 𝕄 := onDev 0 (BI.own (ER (launchOf barCells scCells talkToks)))

/-- What every device may look up. -/
def records (K : GSem nD τ sig → ℕ) : sProp 𝕄 := iprop(invs (Pm m) (Gmm m) K ∗ bigSep barCells fun g => reached ER g 0)
instance (K : GSem nD τ sig → ℕ) : BI.Persistent (records m K) := by unfold records; infer_instance

theorem reached_at (d : Dev nD) : (bigSep barCells fun g => (reached ER g 0 : sProp 𝕄)) ⊢ reached ER (barCell d) 0 :=
  bigSep_elim (Finset.mem_map_of_mem barEmb (Finset.mem_univ d))

/-- What is dealt to a device of the protocol. -/
def dealt (d : Dev nD) : sProp 𝕄 :=
  iprop(atPos ER (barCell d) 0 ∅ 0 ∗ (bigSep Finset.univ fun k : Kix => openTok ER ((d : Thread nD τ), osem k))
    ∗ (bigSep Finset.univ fun f => Tok f (dest f d)) ∗ dutyTok ER (barCell (px d)) 0 true ∗ dutyTok ER (barCell (py d)) 0 false)
/-- What it has besides. -/
def bundle (d : Dev nD) : sProp 𝕄 :=
  iprop(StableHlo.held (d : Thread nD τ) (Pipeline.ucRefs τ sig) (V₀ m d) ∗ (cred (tallyAt (barCell d) () 2) ∗ Crd .xr d ∗ Crd .yr d)
    ∗ owes (d : Thread nD τ) (O₀ d) ∅ ∗ ∃ r, prngReg d r)

theorem T₀_intro (K : GSem nD τ sig → ℕ) (d : Dev nD) : iprop(records m K ∗ (dealt d ∗ bundle m d)) ⊢ T₀ m d := by
  unfold records dealt bundle T₀ R Ghost Raw
  iintro ⟨⟨#HI, #HR⟩, ⟨Hat, HO, HT, Hx, Hy⟩, Hh, ⟨Hc, Cx, Cy⟩, HW, Hp⟩
  isplitl [Hh]; · iexact Hh
  isplitr [HW Hp]
  · iexists K
    isplitr; · iexact HI
    isplitl [Hat Hc]; · iframe Hat Hc
    isplitl [Hx]
    · isplitl [Hx]; · iexact Hx
      iapply (reached_at (F := F) (px d)); iexact HR
    isplitl [Hy]
    · isplitl [Hy]; · iexact Hy
      iapply (reached_at (F := F) (py d)); iexact HR
    iframe HT HO Cx Cy
  isplitl [Hp]; · iexact Hp
  iexists ∅; iexact HW

theorem unscoped_sem (d : Dev nD) : (unscopedSems0 d : sProp 𝕄) = semVal (barCell d) 0 := by
  unfold unscopedSems0
  rw [show (Finset.univ.filter fun sm : SemLoc sig => ¬ sm.isScoped .tc) = {SemLoc.reg barS} from by decide, BI.bigSep_singleton]
theorem unscoped_eq : ∀ sm : SemLoc sig, sm.isScoped .tc = false → sm = .reg barS := by decide

theorem big_both {Φ Ψ : Dev nD → sProp 𝕄} : bigSep Finset.univ (fun d => iprop(Φ d ∗ Ψ d)) = iprop(bigSep Finset.univ Φ ∗ bigSep Finset.univ Ψ) := by
  rw [bigSep_sep']

/-- From the launch's resources to what every device starts with. -/
theorem init :
    iprop((bigSep Finset.univ fun d : Dev nD => iprop(unscopedBufs d (fun b => m ((d : Thread nD τ).loc b)) ∗ unscopedSems0 d
          ∗ owes (d : Thread nD τ) (O₀ d) ∅ ∗ Pipeline.launchCred O₀ d ∗ prngReg d (ρ d) ∗ G d)) ∗ levAts L lv)
      ⊢ (|={Set.univ}=> bigSep Finset.univ (T₀ m) : sProp 𝕄) := by
  have hcore (d : Dev nD) : iprop(unscopedBufs d (fun b => m ((d : Thread nD τ).loc b)) ∗ unscopedSems0 d
        ∗ owes (d : Thread nD τ) (O₀ d) ∅ ∗ Pipeline.launchCred O₀ d ∗ prngReg d (ρ d) ∗ G d)
      ⊢ (iprop(bundle m d ∗ (semVal (barCell d) 0 ∗ G d)) : sProp 𝕄) := by
    rw [show unscopedBufs d (fun b => m ((d : Thread nD τ).loc b)) = StableHlo.held (d : Thread nD τ) (Pipeline.ucRefs τ sig) (V₀ m d)
      from Pipeline.unscopedBufs_held d (V₀ m d), unscoped_sem]
    unfold bundle
    iintro ⟨Hh, Hs, HO, Hc, Hp, HG⟩
    ihave Hc := (creds (F := F) d) $$ Hc
    iframe Hh Hc HO Hs HG
    iexists (ρ d); iexact Hp
  have hv : bigSep Finset.univ (fun d : Dev nD => (semVal (barCell d) 0 : sProp 𝕄)) = bigSep barCells fun g => semVal g 0 :=
    (bigSep_map (s := Finset.univ) barEmb (Φ := fun g : GSem nD τ sig => (semVal g 0 : sProp 𝕄))).symm
  have hat : (bigSep barCells fun g => (atPos ER g 0 ∅ 0 : sProp 𝕄)) = bigSep Finset.univ fun d : Dev nD => atPos ER (barCell d) 0 ∅ 0 :=
    bigSep_map (s := Finset.univ) barEmb (Φ := fun g : GSem nD τ sig => (atPos ER g 0 ∅ 0 : sProp 𝕄))
  have hopen : (bigSep scCells fun g => (openTok ER g : sProp 𝕄))
      = bigSep Finset.univ fun d : Dev nD => bigSep Finset.univ fun k : Kix => openTok ER ((d : Thread nD τ), osem k) := by
    unfold scCells; rw [bigSep_map, bigSep_univ_prod]; rfl
  iintro ⟨H, -⟩
  ihave H := (big_mono fun d _ => hcore d) $$ H
  ihave H := (Entails.of_eq big_both) $$ H; icases H with ⟨HB, H⟩
  ihave H := (Entails.of_eq big_both) $$ H; icases H with ⟨Hv, HG⟩
  ihave HG := (show bigSep Finset.univ (G (F := F)) ⊢ BI.own (ER (launchOf barCells scCells talkToks)) from Entails.of_eq (big_onDev 0 _)) $$ HG
  ihave Hv := (Entails.of_eq hv) $$ Hv
  imod (Rounds.fund_launch ER (talkRd (Pm m) (Gmm m)) disjoint_cells (fun g _ h => h) talkToks) $$ [Hv HG] with ⟨%K, -, #HI, #HR, Hat, HO, HT⟩
  · isplitl [Hv]; · iexact Hv
    iexact HG
  ihave Hat := (Entails.of_eq hat) $$ Hat
  ihave HO := (Entails.of_eq hopen) $$ HO
  ihave HT := (Entails.of_eq ((toks_eq (F := F)).trans toks_around)) $$ HT
  imodintro
  iapply (bigSep_with_persistent (R := records m K) (Φ := fun d => iprop(dealt d ∗ bundle m d)) fun d _ => T₀_intro m K d)
  isplitr
  · unfold records invs
    isplitr
    · iapply (Entails.of_eq (bigSep_union (Φ := fun g => (cellInv ER (talkRd (Pm m) (Gmm m)) (K g) g : sProp 𝕄)) disjoint_cells)); iexact HI
    iexact HR
  iapply (Entails.of_eq big_both.symm)
  isplitr [HB]
  · unfold dealt
    iapply (Entails.of_eq big_both.symm); isplitl [Hat]; · iexact Hat
    iapply (Entails.of_eq big_both.symm); isplitl [HO]; · iexact HO
    iexact HT
  iexact HB

/-! ## Every execution -/

set_option backward.isDefEq.respectTransparency.types false in
/-- From any memory with zero counters every weakly fair execution of the program terminates, and every final state has the
    arguments unchanged, each device's result rows as the kernel computes them, and every counter at zero. -/
theorem run_main : θ_run defs (onTc (τ := τ) (main (F := F))) (s₀ m ρ)
    (fun r => (∀ d : Dev nD, (r.2.mem ((d : Thread nD τ).loc main_arg0) = m ((d : Thread nD τ).loc main_arg0)
        ∧ r.2.mem ((d : Thread nD τ).loc main_arg1) = m ((d : Thread nD τ).loc main_arg1))
        ∧ Res (Pm m) (Gmm m) d (r.2.mem ((d : Thread nD τ).loc main_v3_0))) ∧ r.2.sem = fun _ => 0) :=
  Pipeline.θ_run_regions_kit_sems (pcfgs (F := F)) adm (pdats m) () cellOf_inj EP defs₀ 𝒱₀ L lv m ρ main (segs m)
    (fun d Q => by rw [main_segs adm (pdats m) () 𝒱₀ L lv (host m) (reg m) rfl d])
    (by simp only [Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [big_onDev]; iexact HX)
    (T₀ := T₀ m) (Tₙ := Tₙ m)
    (hch := ⟨fun _ => .rfl, fun d => reg_pre m d, fun d => reg_post m d⟩)
    (hinit := init m ρ)
    (QY := fun d s => ((s.mem ((d : Thread nD τ).loc main_arg0) = m ((d : Thread nD τ).loc main_arg0)
        ∧ s.mem ((d : Thread nD τ).loc main_arg1) = m ((d : Thread nD τ).loc main_arg1))
      ∧ Res (Pm m) (Gmm m) d (s.mem ((d : Thread nD τ).loc main_v3_0))) ∧ s.sem (barCell d) = 0)
    (hfin := fun d s' => by
      dsimp only [Tₙ]; rw [held_args]
      unfold Done
      iintro ⟨⟨⟨H0, H1⟩, ⟨%g, %hg, HD⟩, Hb⟩, HSI⟩
      icombine HSI H0 gives %h0
      icombine HSI H1 gives %h1
      icombine HSI HD gives %hD
      icombine HSI Hb gives %hb
      imodintro
      isplitr
      · ipureintro
        refine ⟨⟨⟨(Buf.eq_of_forall_mem_univ h0).trans (V_main_arg0 m d), (Buf.eq_of_forall_mem_univ h1).trans (V_main_arg1 m d)⟩, ?_⟩, by simpa using hb⟩
        rw [Buf.eq_of_forall_mem_univ hD]; exact hg
      iexact HSI)
    (hQ := fun s h hs => ⟨fun d => (h d).1, sem_eq_zero hs fun d sm hsm => by
      obtain rfl := unscoped_eq sm hsm
      exact (h d).2⟩)

end Cert.KernelIdeal.Run
-- ==== Proof.Norm.lean ====
/- The normalised row block over the extended reals: the quotient by the root mean square, element by element. -/
module

public import proofs.«01_k».proof.Proof.Segs
public import Idealize.ShloMosaic.Lib.Pointwise

@[expose] public section

noncomputable section

namespace Cert.KernelIdeal.Run

open Idealize.ShloMosaic Idealize.ShloMosaic.TcCoe
open Cert.KernelIdeal Cert.KernelIdeal.Gen

/-- The number of columns and the constant added to the mean square, as their words read. -/
abbrev cols : EReal := Ideal.ofBits .f32 0x45800000#32
abbrev eps : EReal := Ideal.ofBits .f32 0x358637BD#32

theorem cols_eq : cols = ((4096 : ℝ) : EReal) := by
  simp [cols, Ideal.ofBits, Ideal.ieee, -EReal.coe_mul]; norm_num
theorem eps_pos : 0 < eps := by
  simp [eps, Ideal.ofBits, Ideal.ieee, -EReal.coe_mul]

/-- A square is not negative. -/
theorem square_nonneg (y : EReal) : 0 ≤ y * y := by
  induction y with
  | bot => simp
  | top => simp
  | coe r => rw [← EReal.coe_mul]; exact_mod_cast mul_self_nonneg r

/-- The mean of a row's squares with the constant added is positive. -/
theorem meansq_pos {n : ℕ} (y : Fin n → EReal) : 0 < Ideal.div (∑ k, y k * y k) cols + eps := by
  refine lt_of_lt_of_le eps_pos (le_add_of_nonneg_left ?_)
  rw [cols_eq, Ideal.div_coe (by norm_num)]
  exact mul_nonneg (Finset.sum_nonneg fun k _ => square_nonneg (y k)) (by norm_num)

/-- At a positive number the product with the reciprocal root is the quotient by the root. -/
theorem mul_rsqrt (y t : EReal) (h : 0 < t) : y * Ideal.rsqrt t = Ideal.div y (Ideal.sqrt t) := by
  induction t with
  | bot => simp at h
  | top => simp [Ideal.div]
  | coe r =>
    have hr : 0 < r := by exact_mod_cast h
    rw [Ideal.rsqrt_coe, Ideal.sqrt_coe, if_neg hr.le.not_gt, if_neg hr.le.not_gt, if_neg hr.ne', Ideal.div_coe (Real.sqrt_pos.mpr hr).ne', one_div]

/-- An element of a normalised row, from the row, its place and gamma's element there. -/
def rms (y : Fin 4096 → EReal) (c : Fin 4096) (g : EReal) : EReal :=
  Ideal.div (y c) (Ideal.sqrt (Ideal.div (∑ k, y k * y k) cols + eps)) * g

/-- A row and a column of a block, matched with a stack's one slot. -/
theorem slot_at (i : ℕ) (h : (S2 i).numel = (S3 i).numel) (r : Fin (rows i)) (c : Fin 4096) :
    Shape.reshapeEquiv h (ix2 r c) = ix3 0 r c := by
  refine (Shape.reshapeEquiv_cons_one (n := 2) (d := ![rows i, 4096]) h (ix2 r c)).trans ?_
  funext a; fin_cases a <;> rfl

/-- A row's entry in a column of one entry per row. -/
theorem row_at (i : ℕ) (h : (Scol i).numel = (Srow i).numel) (j : (Scol i).Idx) :
    (Shape.reshapeEquiv h j) = ix1 (n0 := rows i) (j 0) := by
  refine Shape.reshapeEquiv_eq_of_rowMajor h ?_
  rw [Shape.rowMajor_val_one, Shape.rowMajor_val_two]
  have h1 : (j 1).val < 1 := (j 1).isLt
  show (j 0).val = (j 0).val * 1 + (j 1).val
  omega

/-- What the kernel's row block holds at a row and a column. -/
theorem normed_apply (i : ℕ) (a : FVec Ideal (S2 i) .f32) (b : FVec Ideal (S3 i) .bf16) (g : FVec Ideal S1x4096 .f32)
    (r : Fin (rows i)) (c : Fin 4096) :
    normed i a b g (ix2 r c) = rms (fun k => a (ix2 r k) + b (ix3 0 r k)) c (g (ix2 0 c)) := by
  unfold rms
  rw [← mul_rsqrt _ _ (meansq_pos _)]
  pointwise [normed]
  have h1 : ¬(![rows i, 1] 0 = 1) := by
    show rows i ≠ 1
    rcases rows_cases i with h | h <;> omega
  simp only [row_at, slot_at, ix1_0, Shape.Idx.norm_def]
  simp only [dif_neg h1]
  refine congrArg (fun s => (a (ix2 r c) + b (ix3 0 r c)) * Ideal.rsqrt (Ideal.div s cols + eps) * g (ix2 0 c)) (Finset.sum_congr rfl fun x _ => ?_)
  have e := congrArg b (slot_at i (cast32 i) r x)
  exact congrArg₂ (fun u v => (a (ix2 r x) + u) * (a (ix2 r x) + v)) e e

end Cert.KernelIdeal.Run
-- ==== Proof.Plain.lean ====
/- The reference over the extended reals, element by element. -/
module

public import proofs.«01_k».proof.Proof.Norm
public import proofs.«01_k».proof.Proof.Gen.ReferenceIdeal.Run

@[expose] public section

noncomputable section

namespace Cert.ReferenceIdeal.Plain

open Idealize.ShloMosaic Idealize.ShloMosaic.TcCoe Idealize.SL.Sem
open Cert.ReferenceIdeal Cert.ReferenceIdeal.Gen
open Cert.KernelIdeal.Run (rms cols eps)

/-- The sum over the first axis. -/
def total (X : FVec Ideal S2x8192x4096 .f32) : FVec Ideal S8192x4096 .f32 :=
  Host.reduceAdd X (constant S_ .f32 0x00000000#32) reducesTo_S2x8192x4096_S8192x4096_d0 h_S_

/-- The array the reference returns, from a sum's array and gamma. -/
def scaled (Y : FVec Ideal S8192x4096 .f32) (γ : FVec Ideal S4096 .f32) : FVec Ideal S8192x4096 .f32 :=
  mulf (Host.divf Y (broadcastInDim S8192x4096 ![0, 1] bcast_S8192x1_S8192x4096_0_1 (Host.sqrt (addf (Host.divf (broadcastInDim S8192x1 ![0] bcast_S8192_S8192x1_0 (Host.reduceAdd (mulf Y Y) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 γ))

theorem total_apply (X : FVec Ideal S2x8192x4096 .f32) (r : Fin 8192) (c : Fin 4096) :
    total X (ix2 r c) = X (ix3 0 r c) + X (ix3 1 r c) := by
  pointwise [total]
  exact Fin.sum_univ_two _

theorem scaled_apply (Y : FVec Ideal S8192x4096 .f32) (γ : FVec Ideal S4096 .f32) (r : Fin 8192) (c : Fin 4096) :
    scaled Y γ (ix2 r c) = rms (fun k => Y (ix2 r k)) c (γ (ix1 c)) := by
  pointwise [scaled, rms]

/-- The reference's result at a row and a column. -/
theorem result_apply (X : FVec Ideal S2x8192x4096 .f32) (γ : FVec Ideal S4096 .f32) (r : Fin 8192) (c : Fin 4096) :
    scaled (total X) γ (ix2 r c) = rms (fun k => X (ix3 0 r k) + X (ix3 1 r k)) c (γ (ix1 c)) := by
  rw [scaled_apply]
  simp only [total_apply]

/-- Every execution of the reference ends with that array, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ d : Dev nD,
      r.2.mem ((d.tc : Thread nD τ).loc main_v13) = scaled (total (m ((d.tc : Thread nD τ).loc main_arg0))) (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1) :=
  Value.run m ρ

end Cert.ReferenceIdeal.Plain
-- ==== Proof.Value.lean ====
/- What the kernel leaves in each device's result, element by element. -/
module

public import proofs.«01_k».proof.Proof.Launch
public import proofs.«01_k».proof.Proof.Norm
public import Idealize.ShloMosaic.Lib.StableHlo.ReadAt

@[expose] public section

noncomputable section

namespace Cert.KernelIdeal.Run

open Idealize.ShloMosaic Idealize.ShloMosaic.TcCoe Idealize.SL.Sem
open Cert.KernelIdeal Cert.KernelIdeal.Gen

/-! ## Rows read through the views -/

theorem srcRow_lt (d : Dev nD) (i : ℕ) (r : Fin (rows i)) : srcRow d i + r.val < 8192 := by
  have := off_add_rows i; have := xc_lt d; have := yc_lt d; have := r.isLt; unfold srcRow; omega
theorem locRow_lt (d : Dev nD) (i : ℕ) (r : Fin (rows i)) : locRow d i + r.val < 8192 := by
  have := off_add_rows i; have := xc_lt d; have := yc_lt d; have := r.isLt; unfold locRow; omega
theorem outRow_lt (d : Dev nD) (i : ℕ) (r : Fin (rows i)) : outRow d i + r.val < 4096 := by
  have := off_add_rows i; have := yc_lt d; have := r.isLt; unfold outRow; omega
theorem othRow_lt (d : Dev nD) (i : ℕ) (r : Fin (rows i)) : othRow d i + r.val < 4096 := by
  have := off_add_rows i; have := yc_lt d; have := r.isLt; unfold othRow; omega

/-- Where a window of whole rows, from row `o 0`, has its row `r`. -/
theorem rect_at {N n : ℕ} (o : Fin 2 → ℕ) (q : ℕ) (ho : o = ![q, 0])
    (h : ∀ a, o a + (⟨2, ![n, 4096]⟩ : Shape).size a ≤ (⟨2, ![N, 4096]⟩ : Shape).size a) (r : Fin n) (c : Fin 4096) (hq : q + r.val < N) :
    (Rect.unit (s := ⟨2, ![N, 4096]⟩) o (⟨2, ![n, 4096]⟩ : Shape).size h).emb (ix2 r c) = ix2 (⟨q + r.val, hq⟩ : Fin N) c := by
  subst ho
  funext a
  refine Fin.ext ?_
  match a with
  | 0 => show q + 1 * r.val = q + r.val; omega
  | 1 => show 0 + 1 * c.val = c.val; omega

theorem src_at {F : FTy → Type} (d : Dev nD) (i : ℕ) (g : main_v1.ty.Contents (Elt F)) (r : Fin (rows i)) (c : Fin 4096) :
    (srcV d i).view.read (Elt F) g (ix2 r c) = g (ix2 (⟨srcRow d i + r.val, srcRow_lt d i r⟩ : Fin 8192) c) :=
  congrArg g (rect_at _ _ (off1_eq d i) (inb1 d i) r c _)
theorem loc_at {F : FTy → Type} (d : Dev nD) (i : ℕ) (g : main_v1.ty.Contents (Elt F)) (r : Fin (rows i)) (c : Fin 4096) :
    (locV d i).view.read (Elt F) g (ix2 r c) = g (ix2 (⟨locRow d i + r.val, locRow_lt d i r⟩ : Fin 8192) c) :=
  congrArg g (rect_at _ _ (off2_eq d i) (inbo2 d i) r c _)
theorem out_at {F : FTy → Type} (d : Dev nD) (i : ℕ) (g : main_v3_0.ty.Contents (Elt F)) (r : Fin (rows i)) (c : Fin 4096) :
    (outV d i).view.read (Elt F) g (ix2 r c) = g (ix2 (⟨outRow d i + r.val, outRow_lt d i r⟩ : Fin 4096) c) :=
  congrArg g (rect_at _ _ (off3_eq d i) (inb3 d i) r c _)
theorem oth_at {F : FTy → Type} (d : Dev nD) (i : ℕ) (g : main_v3_0.ty.Contents (Elt F)) (r : Fin (rows i)) (c : Fin 4096) :
    (othV d i).view.read (Elt F) g (ix2 r c) = g (ix2 (⟨othRow d i + r.val, othRow_lt d i r⟩ : Fin 4096) c) :=
  congrArg g (rect_at _ _ (off7_eq d i) (inb7 d i) r c _)

/-! ## The blocks -/

theorem srcRow_px (d : Dev nD) (i : ℕ) : srcRow (px d) i = locRow d i := by
  have h : xc (px d) = 1 - xc d ∧ yc (px d) = yc d := (by decide +kernel : ∀ d : Dev nD, xc (px d) = 1 - xc d ∧ yc (px d) = yc d) d
  have := xc_lt d
  unfold srcRow locRow
  rw [h.1, h.2, show 1 - (1 - xc d) = xc d by omega]

theorem locRow_out (d : Dev nD) (i : ℕ) : locRow d i = xc d * 4096 + outRow d i := by
  unfold locRow outRow; omega
theorem locRow_oth (d : Dev nD) (i : ℕ) : locRow (py d) i = xc d * 4096 + othRow d i := by
  have h : xc (py d) = xc d ∧ yc (py d) = 1 - yc d := (by decide +kernel : ∀ d : Dev nD, xc (py d) = xc d ∧ yc (py d) = 1 - yc d) d
  unfold locRow othRow
  rw [h.1, h.2]; omega

variable (P : Dev nD → main_v1.ty.Contents (Elt Ideal)) (Gm : Dev nD → cc0_stg0_0.ty.Contents (Elt Ideal))

/-- A whole row of two devices' sum, normalised and scaled. -/
def rowOf (d : Dev nD) (R : Fin 8192) (c : Fin 4096) : EReal :=
  rms (fun k => (show EReal from P d (ix2 R k)) + (show EReal from P (px d) (ix2 R k))) c (Gm d (ix2 0 c))

/-- Rounding to the narrow type changes no value here. -/
theorem narrow_at (i : ℕ) (v : FVec Ideal (S2 i) .f32) (r : Fin (rows i)) (c : Fin 4096) :
    narrow i v (ix3 0 r c) = v (ix2 r c) := by
  show v (Shape.reshapeEquiv _ (ix3 0 r c)) = _
  refine congrArg v ?_
  rw [← slot_at i (sqz i).numel_eq r c]
  exact (Shape.reshapeEquiv_reshapeEquiv _ _ _).trans (Shape.reshapeEquiv_self _ _)

theorem gm_at (d : Dev nD) (c : Fin 4096) : gm Gm d (ix2 0 c) = Gm d (ix2 0 c) :=
  congrArg (Gm d) (by
    funext a
    refine Fin.ext ?_
    match a with
    | 0 => rfl
    | 1 => show 0 + 1 * c.val = c.val; omega)

theorem nv_at (d : Dev nD) (i : ℕ) (r : Fin (rows i)) (c : Fin 4096) :
    nv P Gm d i (ix2 r c) = rowOf P Gm d ⟨locRow d i + r.val, locRow_lt d i r⟩ c := by
  unfold nv rowOf
  rw [normed_apply, gm_at]
  congr 1
  funext k
  exact congrArg₂ (fun a b : EReal => a + b) (loc_at d i (P d) r k)
    (((narrow_at i _ r k).trans (src_at (px d) i (P (px d)) r k)).trans
      (congrArg (fun q => P (px d) (ix2 q k)) (Fin.ext (by show srcRow (px d) i + r.val = locRow d i + r.val; rw [srcRow_px]))))

theorem ov_at (d : Dev nD) (i : ℕ) (r : Fin (rows i)) (c : Fin 4096) :
    ov P Gm d i (ix2 r c) = rowOf P Gm d ⟨locRow d i + r.val, locRow_lt d i r⟩ c := by
  rw [← nv_at]
  show nv P Gm d i (Shape.reshapeEquiv _ (Shape.reshapeEquiv _ (ix2 r c))) = _
  exact congrArg _ ((Shape.reshapeEquiv_reshapeEquiv _ _ _).trans (Shape.reshapeEquiv_self _ _))

theorem wv_at (d : Dev nD) (i : ℕ) (r : Fin (rows i)) (c : Fin 4096) :
    wv P Gm d i (ix2 r c) = rowOf P Gm (py d) ⟨locRow (py d) i + r.val, locRow_lt (py d) i r⟩ c := by
  rw [← nv_at]
  show nv P Gm (py d) i (Shape.reshapeEquiv _ (Shape.reshapeEquiv _ (Shape.reshapeEquiv _ (Shape.reshapeEquiv _ (ix2 r c))))) = _
  refine congrArg _ ?_
  rw [Shape.reshapeEquiv_reshapeEquiv, Shape.reshapeEquiv_reshapeEquiv]
  exact (Shape.reshapeEquiv_reshapeEquiv _ _ _).trans (Shape.reshapeEquiv_self _ _)

/-! ## Every row of the result -/

/-- Each row below 2048 is in one of the segments. -/
theorem cover (q : ℕ) (h : q < 2048) : ∃ i, i < 18 ∧ off i ≤ q ∧ q < off i + rows i := by
  have ho : ∀ i : Fin 18, off i = (if i.val ≤ 1 then 64 * i.val else if i.val ≤ 16 then 128 * (i.val - 1) else 1984)
      ∧ rows i = (if 2 ≤ i.val ∧ i.val ≤ 15 then 128 else 64) := by decide
  have key : ∀ i, i < 18 → ((if i ≤ 1 then 64 * i else if i ≤ 16 then 128 * (i - 1) else 1984) ≤ q
      ∧ q < (if i ≤ 1 then 64 * i else if i ≤ 16 then 128 * (i - 1) else 1984) + (if 2 ≤ i ∧ i ≤ 15 then 128 else 64))
      → ∃ i, i < 18 ∧ off i ≤ q ∧ q < off i + rows i := by
    intro i hi hq
    refine ⟨i, hi, ?_⟩
    rw [(ho ⟨i, hi⟩).1, (ho ⟨i, hi⟩).2]; exact hq
  rcases (by omega : q < 64 ∨ (64 ≤ q ∧ q < 128) ∨ (128 ≤ q ∧ q < 1920) ∨ (1920 ≤ q ∧ q < 1984) ∨ 1984 ≤ q) with h | h | h | h | h
  · exact key 0 (by omega) (by simp; omega)
  · exact key 1 (by omega) (by simp; omega)
  · refine key (q / 128 + 1) (by omega) ?_
    rw [if_neg (by omega), if_pos (by omega), if_pos (by omega)]; omega
  · exact key 16 (by omega) (by simp; omega)
  · exact key 17 (by omega) (by simp; omega)

/-- A result that holds every segment's rows holds, at every row, the normalised row of the sum. -/
theorem res_at (d : Dev nD) (g : main_v3_0.ty.Contents (Elt Ideal)) (h : Res P Gm d g) (R : Fin 4096) (c : Fin 4096)
    (hlt : xc d * 4096 + R.val < 8192) :
    g (ix2 R c) = rowOf P Gm d ⟨xc d * 4096 + R.val, hlt⟩ c ∨ g (ix2 R c) = rowOf P Gm (py d) ⟨xc d * 4096 + R.val, hlt⟩ c := by
  have hy := yc_lt d
  have hR := R.isLt
  rcases (by omega : yc d * 2048 ≤ R.val ∧ R.val < yc d * 2048 + 2048 ∨ (1 - yc d) * 2048 ≤ R.val ∧ R.val < (1 - yc d) * 2048 + 2048) with hr | hr
  · obtain ⟨i, hi, h1, h2⟩ := cover (R.val - yc d * 2048) (by omega)
    refine .inl ?_
    have hr0 : R.val = outRow d i + (R.val - outRow d i) := by unfold outRow; omega
    have hrl : R.val - outRow d i < rows i := by unfold outRow; omega
    have e := congrFun (h i (Finset.mem_Ico.2 ⟨Nat.zero_le _, hi⟩)).1 (ix2 ⟨R.val - outRow d i, hrl⟩ c)
    rw [out_at, ov_at] at e
    refine (congrArg (fun q => g (ix2 q c)) (Fin.ext hr0)).trans (e.trans ?_)
    exact congrArg (fun q => rowOf P Gm d q c) (Fin.ext (by
      show locRow d i + (R.val - outRow d i) = xc d * 4096 + R.val
      rw [locRow_out]; omega))
  · obtain ⟨i, hi, h1, h2⟩ := cover (R.val - (1 - yc d) * 2048) (by omega)
    refine .inr ?_
    have hr0 : R.val = othRow d i + (R.val - othRow d i) := by unfold othRow; omega
    have hrl : R.val - othRow d i < rows i := by unfold othRow; omega
    have e := congrFun (h i (Finset.mem_Ico.2 ⟨Nat.zero_le _, hi⟩)).2 (ix2 ⟨R.val - othRow d i, hrl⟩ c)
    rw [oth_at, wv_at] at e
    refine (congrArg (fun q => g (ix2 q c)) (Fin.ext hr0)).trans (e.trans ?_)
    exact congrArg (fun q => rowOf P Gm (py d) q c) (Fin.ext (by
      show locRow (py d) i + (R.val - othRow d i) = xc d * 4096 + R.val
      rw [locRow_oth]; omega))

/-! ## The arrays as launched -/

variable (m : (ℓ : Loc nD τ sig) → Buf (Elt Ideal) ℓ)

theorem Pm_at (d : Dev nD) (R : Fin 8192) (c : Fin 4096) :
    Pm m d (ix2 R c) = (m ((d : Thread nD τ).loc main_arg0) : FVec Ideal S1x8192x4096 .f32) (ix3 0 R c) := by
  unfold Pm V
  after_reads_at

theorem Gmm_at (d : Dev nD) (c : Fin 4096) :
    Gmm m d (ix2 0 c) = (m ((d : Thread nD τ).loc main_arg1) : FVec Ideal S4096 .f32) (ix1 c) := by
  have h : (V m d main_v2 : FVec Ideal S1x4096 .f32) (ix2 0 c) = (m ((d : Thread nD τ).loc main_arg1) : FVec Ideal S4096 .f32) (ix1 c) := by
    unfold V
    after_reads_at
  rw [← h]
  refine congrArg (V m d main_v2) ?_
  funext a
  refine Fin.ext ?_
  match a with
  | 0 => rfl
  | 1 => show 0 + 1 * c.val = c.val; omega

/-- What a device's first argument holds: its part of the whole array. -/
def Part (X : FVec Ideal ⟨3, ![2, 8192, 4096]⟩ .f32) (d : Dev nD) (a : FVec Ideal S1x8192x4096 .f32) : Prop :=
  a = Layout.blockN ⟨3, ![1, 8192, 4096]⟩ ⟨3, ![2, 8192, 4096]⟩ (Layout.meshBlock [2, 2] ![[0], [], []] d) X

theorem lin_eq : ∀ d : Dev nD, Layout.meshLin [2, 2] d.val [0] = xc d := by decide +kernel

theorem part_at (X : FVec Ideal ⟨3, ![2, 8192, 4096]⟩ .f32) (d : Dev nD) (a : FVec Ideal S1x8192x4096 .f32) (h : Part X d a)
    (R : Fin 8192) (k : Fin 4096) : a (ix3 0 R k) = X (ix3 (⟨xc d, xc_lt d⟩ : Fin 2) R k) := by
  rw [h]
  refine congrArg X ?_
  funext b
  refine Fin.ext ?_
  match b with
  | 0 => show Layout.meshLin [2, 2] d.val [0] * 1 + 0 = xc d; rw [lin_eq]; omega
  | 1 => show 0 * 8192 + R.val = R.val; omega
  | 2 => show 0 * 4096 + k.val = k.val; omega

/-- The two halves a device and its peer hold, in either order. -/
theorem both (f : Fin 2 → EReal) (d : Dev nD) :
    f ⟨xc d, xc_lt d⟩ + f ⟨xc (px d), xc_lt (px d)⟩ = f 0 + f 1 := by
  rcases (by decide +kernel : ∀ d : Dev nD, (xc d = 0 ∧ xc (px d) = 1) ∨ (xc d = 1 ∧ xc (px d) = 0)) d with ⟨h0, h1⟩ | ⟨h0, h1⟩
  · exact congrArg₂ (fun a b => f a + f b) (Fin.ext h0 : _ = (0 : Fin 2)) (Fin.ext h1 : _ = (1 : Fin 2))
  · exact (congrArg₂ (fun a b => f a + f b) (Fin.ext h0 : _ = (1 : Fin 2)) (Fin.ext h1 : _ = (0 : Fin 2))).trans (add_comm _ _)

/-- The kernel's row is the normalised row of the whole array's sum. -/
theorem rowOf_eq (X : FVec Ideal ⟨3, ![2, 8192, 4096]⟩ .f32) (γ : FVec Ideal S4096 .f32)
    (hX : ∀ d : Dev nD, Part X d (m ((d : Thread nD τ).loc main_arg0)))
    (hγ : ∀ d : Dev nD, (m ((d : Thread nD τ).loc main_arg1) : FVec Ideal S4096 .f32) = γ) (d : Dev nD) (R : Fin 8192) (c : Fin 4096) :
    rowOf (Pm m) (Gmm m) d R c = rms (fun k => X (ix3 0 R k) + X (ix3 1 R k)) c (γ (ix1 c)) := by
  have hg : Gmm m d (ix2 0 c) = γ (ix1 c) := (Gmm_at m d c).trans (congrFun (hγ d) _)
  have hp : ∀ (e : Dev nD) (k : Fin 4096), Pm m e (ix2 R k) = X (ix3 (⟨xc e, xc_lt e⟩ : Fin 2) R k) := fun e k =>
    (Pm_at m e R k).trans (part_at X e _ (hX e) R k)
  unfold rowOf
  refine congrArg₂ (fun y g => rms y c g) (funext fun k => ?_) hg
  exact (congrArg₂ (fun a b : EReal => a + b) (hp d k) (hp (px d) k)).trans (both (fun x => X (ix3 x R k)) d)

/-- Each device's result is its part of the whole result. -/
theorem result_eq (X : FVec Ideal ⟨3, ![2, 8192, 4096]⟩ .f32) (γ : FVec Ideal S4096 .f32)
    (hX : ∀ d : Dev nD, Part X d (m ((d : Thread nD τ).loc main_arg0)))
    (hγ : ∀ d : Dev nD, (m ((d : Thread nD τ).loc main_arg1) : FVec Ideal S4096 .f32) = γ) (v : FVec Ideal ⟨2, ![8192, 4096]⟩ .f32)
    (hv : ∀ (R : Fin 8192) (c : Fin 4096), v (ix2 R c) = rms (fun k => X (ix3 0 R k) + X (ix3 1 R k)) c (γ (ix1 c)))
    (d : Dev nD) (g : main_v3_0.ty.Contents (Elt Ideal)) (h : Res (Pm m) (Gmm m) d g) :
    g = Layout.blockN ⟨2, ![4096, 4096]⟩ ⟨2, ![8192, 4096]⟩ (Layout.meshBlock [2, 2] ![[0], []] d) v := by
  funext j
  rw [eq_ix2 j]
  have hlt : xc d * 4096 + (j 0).val < 8192 := by
    have := xc_lt d
    have : (j 0).val < 4096 := (j 0).isLt
    omega
  have e : g (ix2 (j 0) (j 1)) = v (ix2 (⟨xc d * 4096 + (j 0).val, hlt⟩ : Fin 8192) (j 1)) := by
    rcases res_at (Pm m) (Gmm m) d g h (j 0) (j 1) hlt with e | e
    · exact e.trans ((rowOf_eq m X γ hX hγ d _ _).trans (hv _ _).symm)
    · exact e.trans ((rowOf_eq m X γ hX hγ (py d) _ _).trans (hv _ _).symm)
  refine e.trans (congrArg v ?_)
  funext b
  refine Fin.ext ?_
  match b with
  | 0 => show xc d * 4096 + (j 0).val = Layout.meshLin [2, 2] d.val [0] * 4096 + (j 0).val; rw [lin_eq]
  | 1 => show (j 1).val = 0 * 4096 + (j 1).val; omega

end Cert.KernelIdeal.Run
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Plain
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run read at the arguments and the counters, for any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun d => (h.1 d).1, h.2⟩) (Cert.KernelIdeal.Run.run_main m ρ)

/-- The kernel and its idealization have one table of bodies, for any floats. -/
theorem bodies_same {F : FTy → Type} [FloatOps F] : Cert.Kernel.defs₀ (F := F) = Cert.KernelIdeal.defs₀ (F := F) := by
  funext p ℓ a
  rcases p with _ | _ | _
  · match ℓ, a with
    | 0, (_, _) => rfl
    | ⟨_ + 1, h⟩, _ => exact absurd h (Nat.not_lt.2 (Nat.le_add_left _ _))
  · rfl
  · rfl

/-- So they have one table of pipelines and bodies. -/
theorem defs_same {F : FTy → Type} [FloatOps F] : Cert.Kernel.defs (F := F) = Cert.KernelIdeal.defs (F := F) :=
  congrArg (Pipeline.defs (Cert.KernelIdeal.pcfgs (F := F))) bodies_same

/-- The kernel's frame at machine words: its text is its idealization's, so the run is the same. -/
theorem frame_kernel : Cert.quiescent_Kernel := fun m ρ _ => by
  rw [defs_same]
  exact frame_any (F := Bits) m ρ

/-- The idealization's frame. -/
theorem frame_ideal : Cert.quiescent_KernelIdeal := fun m ρ _ => frame_any (F := Ideal) m ρ

/-- The reference's frame: no operation writes an argument, and it has no semaphore. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- Over the extended reals each device's result is its part of the reference's. -/
theorem same_value : Cert.algebraic_KernelIdeal_ReferenceIdeal := fun m g m' g' _ hargs =>
  ⟨Cert.ReferenceIdeal.Plain.scaled
      (Cert.ReferenceIdeal.Plain.total (m' (((0 : Dev Cert.ReferenceIdeal.nD).tc : Thread Cert.ReferenceIdeal.nD Cert.ReferenceIdeal.τ).loc Cert.ReferenceIdeal.main_arg0)))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h d =>
      ⟨Cert.KernelIdeal.Run.result_eq m _ _ (fun d => (hargs d).1) (fun d => (hargs d).2) _
          (Cert.ReferenceIdeal.Plain.result_apply _ _) d _ (h.1 d).2, (h.1 d).1⟩)
      (Cert.KernelIdeal.Run.run_main m g),
    (θ_run Cert.ReferenceIdeal.defs _ _).mono (fun r h => h 0) (Cert.ReferenceIdeal.Plain.run m' g')⟩

theorem claim : Cert.Claim :=
  ⟨Cert.Kernel.Gen.facts, Cert.KernelIdeal.Gen.facts, Cert.ReferenceIdeal.Gen.facts, frame_kernel, frame_ideal, frame_reference, trivial, same_value⟩

end Cert.Proof

end
